-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_Discretise (m : (ℓ : Loc Cert.Discretise.nD Cert.Discretise.τ Cert.Discretise.sig) → Buf (Elt Bits) ℓ) : Prop :=
  True

def Pre_DiscretiseIdeal (m : (ℓ : Loc Cert.DiscretiseIdeal.nD Cert.DiscretiseIdeal.τ Cert.DiscretiseIdeal.sig) → Buf (Elt Ideal) ℓ) : Prop :=
  True

def Pre_DiscretiseReferenceIdeal (m : (ℓ : Loc Cert.DiscretiseReferenceIdeal.nD Cert.DiscretiseReferenceIdeal.τ Cert.DiscretiseReferenceIdeal.sig) → Buf (Elt Ideal) ℓ) : Prop :=
  True

def Pre_FirstMerge (m : (ℓ : Loc Cert.FirstMerge.nD Cert.FirstMerge.τ Cert.FirstMerge.sig) → Buf (Elt Bits) ℓ) : Prop :=
  True

def Pre_FirstMergeIdeal (m : (ℓ : Loc Cert.FirstMergeIdeal.nD Cert.FirstMergeIdeal.τ Cert.FirstMergeIdeal.sig) → Buf (Elt Ideal) ℓ) : Prop :=
  True

def Pre_FirstMergeReferenceIdeal (m : (ℓ : Loc Cert.FirstMergeReferenceIdeal.nD Cert.FirstMergeReferenceIdeal.τ Cert.FirstMergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Discretise [hDiscretise : Cert.Discretise.Facts] : Prop :=
  ∀ (m : (ℓ : Loc Cert.Discretise.nD Cert.Discretise.τ Cert.Discretise.sig) → Buf (Elt Bits) ℓ) (g : Dev Cert.Discretise.nD → PrngReg), Pre_Discretise m →
    θ_run (Cert.Discretise.defs (F := Bits)) (onTc (τ := Cert.Discretise.τ) (Cert.Discretise.main (F := Bits))) ⟨m, fun _ => 0, g⟩ (fun r => (∀ c : Dev Cert.Discretise.nD,
      r.2.mem ((c.tc : Thread Cert.Discretise.nD Cert.Discretise.τ).loc Cert.Discretise.main_arg0) = m ((c.tc : Thread Cert.Discretise.nD Cert.Discretise.τ).loc Cert.Discretise.main_arg0)
      ∧ r.2.mem ((c.tc : Thread Cert.Discretise.nD Cert.Discretise.τ).loc Cert.Discretise.main_arg1) = m ((c.tc : Thread Cert.Discretise.nD Cert.Discretise.τ).loc Cert.Discretise.main_arg1)
      ∧ r.2.mem ((c.tc : Thread Cert.Discretise.nD Cert.Discretise.τ).loc Cert.Discretise.main_arg2) = m ((c.tc : Thread Cert.Discretise.nD Cert.Discretise.τ).loc Cert.Discretise.main_arg2))
      ∧ r.2.sem = fun _ => 0)

def quiescent_DiscretiseIdeal [hDiscretiseIdeal : Cert.DiscretiseIdeal.Facts] : Prop :=
  ∀ (m : (ℓ : Loc Cert.DiscretiseIdeal.nD Cert.DiscretiseIdeal.τ Cert.DiscretiseIdeal.sig) → Buf (Elt Ideal) ℓ) (g : Dev Cert.DiscretiseIdeal.nD → PrngReg), Pre_DiscretiseIdeal m →
    θ_run (Cert.DiscretiseIdeal.defs (F := Ideal)) (onTc (τ := Cert.DiscretiseIdeal.τ) (Cert.DiscretiseIdeal.main (F := Ideal))) ⟨m, fun _ => 0, g⟩ (fun r => (∀ c : Dev Cert.DiscretiseIdeal.nD,
      r.2.mem ((c.tc : Thread Cert.DiscretiseIdeal.nD Cert.DiscretiseIdeal.τ).loc Cert.DiscretiseIdeal.main_arg0) = m ((c.tc : Thread Cert.DiscretiseIdeal.nD Cert.DiscretiseIdeal.τ).loc Cert.DiscretiseIdeal.main_arg0)
      ∧ r.2.mem ((c.tc : Thread Cert.DiscretiseIdeal.nD Cert.DiscretiseIdeal.τ).loc Cert.DiscretiseIdeal.main_arg1) = m ((c.tc : Thread Cert.DiscretiseIdeal.nD Cert.DiscretiseIdeal.τ).loc Cert.DiscretiseIdeal.main_arg1)
      ∧ r.2.mem ((c.tc : Thread Cert.DiscretiseIdeal.nD Cert.DiscretiseIdeal.τ).loc Cert.DiscretiseIdeal.main_arg2) = m ((c.tc : Thread Cert.DiscretiseIdeal.nD Cert.DiscretiseIdeal.τ).loc Cert.DiscretiseIdeal.main_arg2))
      ∧ r.2.sem = fun _ => 0)

def quiescent_DiscretiseReferenceIdeal [hDiscretiseReferenceIdeal : Cert.DiscretiseReferenceIdeal.Facts] : Prop :=
  ∀ (m : (ℓ : Loc Cert.DiscretiseReferenceIdeal.nD Cert.DiscretiseReferenceIdeal.τ Cert.DiscretiseReferenceIdeal.sig) → Buf (Elt Ideal) ℓ) (g : Dev Cert.DiscretiseReferenceIdeal.nD → PrngReg), Pre_DiscretiseReferenceIdeal m →
    θ_run (Cert.DiscretiseReferenceIdeal.defs (F := Ideal)) (onTc (τ := Cert.DiscretiseReferenceIdeal.τ) (Cert.DiscretiseReferenceIdeal.main (F := Ideal))) ⟨m, fun _ => 0, g⟩ (fun r => (∀ c : Dev Cert.DiscretiseReferenceIdeal.nD,
      r.2.mem ((c.tc : Thread Cert.DiscretiseReferenceIdeal.nD Cert.DiscretiseReferenceIdeal.τ).loc Cert.DiscretiseReferenceIdeal.main_arg0) = m ((c.tc : Thread Cert.DiscretiseReferenceIdeal.nD Cert.DiscretiseReferenceIdeal.τ).loc Cert.DiscretiseReferenceIdeal.main_arg0)
      ∧ r.2.mem ((c.tc : Thread Cert.DiscretiseReferenceIdeal.nD Cert.DiscretiseReferenceIdeal.τ).loc Cert.DiscretiseReferenceIdeal.main_arg1) = m ((c.tc : Thread Cert.DiscretiseReferenceIdeal.nD Cert.DiscretiseReferenceIdeal.τ).loc Cert.DiscretiseReferenceIdeal.main_arg1)
      ∧ r.2.mem ((c.tc : Thread Cert.DiscretiseReferenceIdeal.nD Cert.DiscretiseReferenceIdeal.τ).loc Cert.DiscretiseReferenceIdeal.main_arg2) = m ((c.tc : Thread Cert.DiscretiseReferenceIdeal.nD Cert.DiscretiseReferenceIdeal.τ).loc Cert.DiscretiseReferenceIdeal.main_arg2))
      ∧ r.2.sem = fun _ => 0)

def quiescent_FirstMerge [hFirstMerge : Cert.FirstMerge.Facts] : Prop :=
  ∀ (m : (ℓ : Loc Cert.FirstMerge.nD Cert.FirstMerge.τ Cert.FirstMerge.sig) → Buf (Elt Bits) ℓ) (g : Dev Cert.FirstMerge.nD → PrngReg), Pre_FirstMerge m →
    θ_run (Cert.FirstMerge.defs (F := Bits)) (onTc (τ := Cert.FirstMerge.τ) (Cert.FirstMerge.main (F := Bits))) ⟨m, fun _ => 0, g⟩ (fun r => (∀ c : Dev Cert.FirstMerge.nD,
      r.2.mem ((c.tc : Thread Cert.FirstMerge.nD Cert.FirstMerge.τ).loc Cert.FirstMerge.main_arg0) = m ((c.tc : Thread Cert.FirstMerge.nD Cert.FirstMerge.τ).loc Cert.FirstMerge.main_arg0)
      ∧ r.2.mem ((c.tc : Thread Cert.FirstMerge.nD Cert.FirstMerge.τ).loc Cert.FirstMerge.main_arg1) = m ((c.tc : Thread Cert.FirstMerge.nD Cert.FirstMerge.τ).loc Cert.FirstMerge.main_arg1)
      ∧ r.2.mem ((c.tc : Thread Cert.FirstMerge.nD Cert.FirstMerge.τ).loc Cert.FirstMerge.main_arg2) = m ((c.tc : Thread Cert.FirstMerge.nD Cert.FirstMerge.τ).loc Cert.FirstMerge.main_arg2)
      ∧ r.2.mem ((c.tc : Thread Cert.FirstMerge.nD Cert.FirstMerge.τ).loc Cert.FirstMerge.main_arg3) = m ((c.tc : Thread Cert.FirstMerge.nD Cert.FirstMerge.τ).loc Cert.FirstMerge.main_arg3)
      ∧ r.2.mem ((c.tc : Thread Cert.FirstMerge.nD Cert.FirstMerge.τ).loc Cert.FirstMerge.main_arg4) = m ((c.tc : Thread Cert.FirstMerge.nD Cert.FirstMerge.τ).loc Cert.FirstMerge.main_arg4)
      ∧ r.2.mem ((c.tc : Thread Cert.FirstMerge.nD Cert.FirstMerge.τ).loc Cert.FirstMerge.main_arg5) = m ((c.tc : Thread Cert.FirstMerge.nD Cert.FirstMerge.τ).loc Cert.FirstMerge.main_arg5)
      ∧ r.2.mem ((c.tc : Thread Cert.FirstMerge.nD Cert.FirstMerge.τ).loc Cert.FirstMerge.main_arg6) = m ((c.tc : Thread Cert.FirstMerge.nD Cert.FirstMerge.τ).loc Cert.FirstMerge.main_arg6)
      ∧ r.2.mem ((c.tc : Thread Cert.FirstMerge.nD Cert.FirstMerge.τ).loc Cert.FirstMerge.main_arg7) = m ((c.tc : Thread Cert.FirstMerge.nD Cert.FirstMerge.τ).loc Cert.FirstMerge.main_arg7)
      ∧ r.2.mem ((c.tc : Thread Cert.FirstMerge.nD Cert.FirstMerge.τ).loc Cert.FirstMerge.main_arg8) = m ((c.tc : Thread Cert.FirstMerge.nD Cert.FirstMerge.τ).loc Cert.FirstMerge.main_arg8)
      ∧ r.2.mem ((c.tc : Thread Cert.FirstMerge.nD Cert.FirstMerge.τ).loc Cert.FirstMerge.main_arg9) = m ((c.tc : Thread Cert.FirstMerge.nD Cert.FirstMerge.τ).loc Cert.FirstMerge.main_arg9))
      ∧ r.2.sem = fun _ => 0)

def quiescent_FirstMergeIdeal [hFirstMergeIdeal : Cert.FirstMergeIdeal.Facts] : Prop :=
  ∀ (m : (ℓ : Loc Cert.FirstMergeIdeal.nD Cert.FirstMergeIdeal.τ Cert.FirstMergeIdeal.sig) → Buf (Elt Ideal) ℓ) (g : Dev Cert.FirstMergeIdeal.nD → PrngReg), Pre_FirstMergeIdeal m →
    θ_run (Cert.FirstMergeIdeal.defs (F := Ideal)) (onTc (τ := Cert.FirstMergeIdeal.τ) (Cert.FirstMergeIdeal.main (F := Ideal))) ⟨m, fun _ => 0, g⟩ (fun r => (∀ c : Dev Cert.FirstMergeIdeal.nD,
      r.2.mem ((c.tc : Thread Cert.FirstMergeIdeal.nD Cert.FirstMergeIdeal.τ).loc Cert.FirstMergeIdeal.main_arg0) = m ((c.tc : Thread Cert.FirstMergeIdeal.nD Cert.FirstMergeIdeal.τ).loc Cert.FirstMergeIdeal.main_arg0)
      ∧ r.2.mem ((c.tc : Thread Cert.FirstMergeIdeal.nD Cert.FirstMergeIdeal.τ).loc Cert.FirstMergeIdeal.main_arg1) = m ((c.tc : Thread Cert.FirstMergeIdeal.nD Cert.FirstMergeIdeal.τ).loc Cert.FirstMergeIdeal.main_arg1)
      ∧ r.2.mem ((c.tc : Thread Cert.FirstMergeIdeal.nD Cert.FirstMergeIdeal.τ).loc Cert.FirstMergeIdeal.main_arg2) = m ((c.tc : Thread Cert.FirstMergeIdeal.nD Cert.FirstMergeIdeal.τ).loc Cert.FirstMergeIdeal.main_arg2)
      ∧ r.2.mem ((c.tc : Thread Cert.FirstMergeIdeal.nD Cert.FirstMergeIdeal.τ).loc Cert.FirstMergeIdeal.main_arg3) = m ((c.tc : Thread Cert.FirstMergeIdeal.nD Cert.FirstMergeIdeal.τ).loc Cert.FirstMergeIdeal.main_arg3)
      ∧ r.2.mem ((c.tc : Thread Cert.FirstMergeIdeal.nD Cert.FirstMergeIdeal.τ).loc Cert.FirstMergeIdeal.main_arg4) = m ((c.tc : Thread Cert.FirstMergeIdeal.nD Cert.FirstMergeIdeal.τ).loc Cert.FirstMergeIdeal.main_arg4)
      ∧ r.2.mem ((c.tc : Thread Cert.FirstMergeIdeal.nD Cert.FirstMergeIdeal.τ).loc Cert.FirstMergeIdeal.main_arg5) = m ((c.tc : Thread Cert.FirstMergeIdeal.nD Cert.FirstMergeIdeal.τ).loc Cert.FirstMergeIdeal.main_arg5)
      ∧ r.2.mem ((c.tc : Thread Cert.FirstMergeIdeal.nD Cert.FirstMergeIdeal.τ).loc Cert.FirstMergeIdeal.main_arg6) = m ((c.tc : Thread Cert.FirstMergeIdeal.nD Cert.FirstMergeIdeal.τ).loc Cert.FirstMergeIdeal.main_arg6)
      ∧ r.2.mem ((c.tc : Thread Cert.FirstMergeIdeal.nD Cert.FirstMergeIdeal.τ).loc Cert.FirstMergeIdeal.main_arg7) = m ((c.tc : Thread Cert.FirstMergeIdeal.nD Cert.FirstMergeIdeal.τ).loc Cert.FirstMergeIdeal.main_arg7)
      ∧ r.2.mem ((c.tc : Thread Cert.FirstMergeIdeal.nD Cert.FirstMergeIdeal.τ).loc Cert.FirstMergeIdeal.main_arg8) = m ((c.tc : Thread Cert.FirstMergeIdeal.nD Cert.FirstMergeIdeal.τ).loc Cert.FirstMergeIdeal.main_arg8)
      ∧ r.2.mem ((c.tc : Thread Cert.FirstMergeIdeal.nD Cert.FirstMergeIdeal.τ).loc Cert.FirstMergeIdeal.main_arg9) = m ((c.tc : Thread Cert.FirstMergeIdeal.nD Cert.FirstMergeIdeal.τ).loc Cert.FirstMergeIdeal.main_arg9))
      ∧ r.2.sem = fun _ => 0)

def quiescent_FirstMergeReferenceIdeal [hFirstMergeReferenceIdeal : Cert.FirstMergeReferenceIdeal.Facts] : Prop :=
  ∀ (m : (ℓ : Loc Cert.FirstMergeReferenceIdeal.nD Cert.FirstMergeReferenceIdeal.τ Cert.FirstMergeReferenceIdeal.sig) → Buf (Elt Ideal) ℓ) (g : Dev Cert.FirstMergeReferenceIdeal.nD → PrngReg), Pre_FirstMergeReferenceIdeal m →
    θ_run (Cert.FirstMergeReferenceIdeal.defs (F := Ideal)) (onTc (τ := Cert.FirstMergeReferenceIdeal.τ) (Cert.FirstMergeReferenceIdeal.main (F := Ideal))) ⟨m, fun _ => 0, g⟩ (fun r => (∀ c : Dev Cert.FirstMergeReferenceIdeal.nD,
      r.2.mem ((c.tc : Thread Cert.FirstMergeReferenceIdeal.nD Cert.FirstMergeReferenceIdeal.τ).loc Cert.FirstMergeReferenceIdeal.main_arg0) = m ((c.tc : Thread Cert.FirstMergeReferenceIdeal.nD Cert.FirstMergeReferenceIdeal.τ).loc Cert.FirstMergeReferenceIdeal.main_arg0)
      ∧ r.2.mem ((c.tc : Thread Cert.FirstMergeReferenceIdeal.nD Cert.FirstMergeReferenceIdeal.τ).loc Cert.FirstMergeReferenceIdeal.main_arg1) = m ((c.tc : Thread Cert.FirstMergeReferenceIdeal.nD Cert.FirstMergeReferenceIdeal.τ).loc Cert.FirstMergeReferenceIdeal.main_arg1)
      ∧ r.2.mem ((c.tc : Thread Cert.FirstMergeReferenceIdeal.nD Cert.FirstMergeReferenceIdeal.τ).loc Cert.FirstMergeReferenceIdeal.main_arg2) = m ((c.tc : Thread Cert.FirstMergeReferenceIdeal.nD Cert.FirstMergeReferenceIdeal.τ).loc Cert.FirstMergeReferenceIdeal.main_arg2)
      ∧ r.2.mem ((c.tc : Thread Cert.FirstMergeReferenceIdeal.nD Cert.FirstMergeReferenceIdeal.τ).loc Cert.FirstMergeReferenceIdeal.main_arg3) = m ((c.tc : Thread Cert.FirstMergeReferenceIdeal.nD Cert.FirstMergeReferenceIdeal.τ).loc Cert.FirstMergeReferenceIdeal.main_arg3)
      ∧ r.2.mem ((c.tc : Thread Cert.FirstMergeReferenceIdeal.nD Cert.FirstMergeReferenceIdeal.τ).loc Cert.FirstMergeReferenceIdeal.main_arg4) = m ((c.tc : Thread Cert.FirstMergeReferenceIdeal.nD Cert.FirstMergeReferenceIdeal.τ).loc Cert.FirstMergeReferenceIdeal.main_arg4)
      ∧ r.2.mem ((c.tc : Thread Cert.FirstMergeReferenceIdeal.nD Cert.FirstMergeReferenceIdeal.τ).loc Cert.FirstMergeReferenceIdeal.main_arg5) = m ((c.tc : Thread Cert.FirstMergeReferenceIdeal.nD Cert.FirstMergeReferenceIdeal.τ).loc Cert.FirstMergeReferenceIdeal.main_arg5)
      ∧ r.2.mem ((c.tc : Thread Cert.FirstMergeReferenceIdeal.nD Cert.FirstMergeReferenceIdeal.τ).loc Cert.FirstMergeReferenceIdeal.main_arg6) = m ((c.tc : Thread Cert.FirstMergeReferenceIdeal.nD Cert.FirstMergeReferenceIdeal.τ).loc Cert.FirstMergeReferenceIdeal.main_arg6)
      ∧ r.2.mem ((c.tc : Thread Cert.FirstMergeReferenceIdeal.nD Cert.FirstMergeReferenceIdeal.τ).loc Cert.FirstMergeReferenceIdeal.main_arg7) = m ((c.tc : Thread Cert.FirstMergeReferenceIdeal.nD Cert.FirstMergeReferenceIdeal.τ).loc Cert.FirstMergeReferenceIdeal.main_arg7)
      ∧ r.2.mem ((c.tc : Thread Cert.FirstMergeReferenceIdeal.nD Cert.FirstMergeReferenceIdeal.τ).loc Cert.FirstMergeReferenceIdeal.main_arg8) = m ((c.tc : Thread Cert.FirstMergeReferenceIdeal.nD Cert.FirstMergeReferenceIdeal.τ).loc Cert.FirstMergeReferenceIdeal.main_arg8)
      ∧ r.2.mem ((c.tc : Thread Cert.FirstMergeReferenceIdeal.nD Cert.FirstMergeReferenceIdeal.τ).loc Cert.FirstMergeReferenceIdeal.main_arg9) = m ((c.tc : Thread Cert.FirstMergeReferenceIdeal.nD Cert.FirstMergeReferenceIdeal.τ).loc Cert.FirstMergeReferenceIdeal.main_arg9))
      ∧ r.2.sem = fun _ => 0)

def preserves_Kernel_KernelIdeal : Prop :=
  IdealRules.named_const.Statement Cert.KernelIdeal.κ "log2e_3" .f32 0x3E38AA3B#32 (((1 / 8) * (Real.log 2)⁻¹ : ℝ) : EReal)
  ∧ IdealRules.named_const.Statement Cert.KernelIdeal.κ "log2e_1" .f32 0x3F38AA3B#32 (((1 / 2) * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "log2e_2" .f32 0x3EB8AA3B#32 (((1 / 4) * (Real.log 2)⁻¹ : ℝ) : EReal)
  ∧ IdealRules.named_const.Statement Cert.KernelIdeal.κ "log2e_4" .f32 0x3DB8AA3B#32 (((1 / 16) * (Real.log 2)⁻¹ : ℝ) : EReal)
  ∧ IdealRules.named_const.Statement Cert.KernelIdeal.κ "log2e_5" .f32 0x3D38AA3B#32 (((1 / 32) * (Real.log 2)⁻¹ : ℝ) : EReal)
  ∧ IdealRules.named_const.Statement Cert.KernelIdeal.κ "log2e_7" .f32 0x3C38AA3B#32 (((1 / 128) * (Real.log 2)⁻¹ : ℝ) : EReal)
  ∧ IdealRules.named_const.Statement Cert.KernelIdeal.κ "log2e_6" .f32 0x3CB8AA3B#32 (((1 / 64) * (Real.log 2)⁻¹ : ℝ) : EReal)
  ∧ IdealRules.named_const.Statement Cert.KernelIdeal.κ "log2e_8" .f32 0x3BB8AA3B#32 (((1 / 256) * (Real.log 2)⁻¹ : ℝ) : EReal)

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v82) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v19) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_Discretise_DiscretiseIdeal : Prop :=
  True

def algebraic_DiscretiseIdeal_DiscretiseReferenceIdeal [hDiscretiseIdeal : Cert.DiscretiseIdeal.Facts] [hDiscretiseReferenceIdeal : Cert.DiscretiseReferenceIdeal.Facts] : Prop :=
  ∀ (m : (ℓ : Loc Cert.DiscretiseIdeal.nD Cert.DiscretiseIdeal.τ Cert.DiscretiseIdeal.sig) → Buf (Elt Ideal) ℓ) (g : Dev Cert.DiscretiseIdeal.nD → PrngReg)
    (m' : (ℓ : Loc Cert.DiscretiseReferenceIdeal.nD Cert.DiscretiseReferenceIdeal.τ Cert.DiscretiseReferenceIdeal.sig) → Buf (Elt Ideal) ℓ) (g' : Dev Cert.DiscretiseReferenceIdeal.nD → PrngReg), Pre_DiscretiseIdeal m →
    (∀ c : Dev Cert.DiscretiseIdeal.nD,
      m' ((c.tc : Thread Cert.DiscretiseReferenceIdeal.nD Cert.DiscretiseReferenceIdeal.τ).loc Cert.DiscretiseReferenceIdeal.main_arg0) = m ((c.tc : Thread Cert.DiscretiseIdeal.nD Cert.DiscretiseIdeal.τ).loc Cert.DiscretiseIdeal.main_arg0)
      ∧ m' ((c.tc : Thread Cert.DiscretiseReferenceIdeal.nD Cert.DiscretiseReferenceIdeal.τ).loc Cert.DiscretiseReferenceIdeal.main_arg1) = m ((c.tc : Thread Cert.DiscretiseIdeal.nD Cert.DiscretiseIdeal.τ).loc Cert.DiscretiseIdeal.main_arg1)
      ∧ m' ((c.tc : Thread Cert.DiscretiseReferenceIdeal.nD Cert.DiscretiseReferenceIdeal.τ).loc Cert.DiscretiseReferenceIdeal.main_arg2) = m ((c.tc : Thread Cert.DiscretiseIdeal.nD Cert.DiscretiseIdeal.τ).loc Cert.DiscretiseIdeal.main_arg2)) →
    ∃ (v0 : (c : Dev Cert.DiscretiseIdeal.nD) → Buf (Elt Ideal) ((c.tc : Thread Cert.DiscretiseIdeal.nD Cert.DiscretiseIdeal.τ).loc Cert.DiscretiseIdeal.main_v1_0)) (v1 : (c : Dev Cert.DiscretiseIdeal.nD) → Buf (Elt Ideal) ((c.tc : Thread Cert.DiscretiseIdeal.nD Cert.DiscretiseIdeal.τ).loc Cert.DiscretiseIdeal.main_v1_1)) (v2 : (c : Dev Cert.DiscretiseIdeal.nD) → Buf (Elt Ideal) ((c.tc : Thread Cert.DiscretiseIdeal.nD Cert.DiscretiseIdeal.τ).loc Cert.DiscretiseIdeal.main_v1_2)) (v3 : (c : Dev Cert.DiscretiseIdeal.nD) → Buf (Elt Ideal) ((c.tc : Thread Cert.DiscretiseIdeal.nD Cert.DiscretiseIdeal.τ).loc Cert.DiscretiseIdeal.main_v1_3)),
      θ_run (Cert.DiscretiseIdeal.defs (F := Ideal)) (onTc (τ := Cert.DiscretiseIdeal.τ) (Cert.DiscretiseIdeal.main (F := Ideal))) ⟨m, fun _ => 0, g⟩ (fun r => ∀ c : Dev Cert.DiscretiseIdeal.nD,
          r.2.mem ((c.tc : Thread Cert.DiscretiseIdeal.nD Cert.DiscretiseIdeal.τ).loc Cert.DiscretiseIdeal.main_v1_0) = v0 c
          ∧ r.2.mem ((c.tc : Thread Cert.DiscretiseIdeal.nD Cert.DiscretiseIdeal.τ).loc Cert.DiscretiseIdeal.main_v1_1) = v1 c
          ∧ r.2.mem ((c.tc : Thread Cert.DiscretiseIdeal.nD Cert.DiscretiseIdeal.τ).loc Cert.DiscretiseIdeal.main_v1_2) = v2 c
          ∧ r.2.mem ((c.tc : Thread Cert.DiscretiseIdeal.nD Cert.DiscretiseIdeal.τ).loc Cert.DiscretiseIdeal.main_v1_3) = v3 c
          ∧ r.2.mem ((c.tc : Thread Cert.DiscretiseIdeal.nD Cert.DiscretiseIdeal.τ).loc Cert.DiscretiseIdeal.main_arg0) = m ((c.tc : Thread Cert.DiscretiseIdeal.nD Cert.DiscretiseIdeal.τ).loc Cert.DiscretiseIdeal.main_arg0)
          ∧ r.2.mem ((c.tc : Thread Cert.DiscretiseIdeal.nD Cert.DiscretiseIdeal.τ).loc Cert.DiscretiseIdeal.main_arg1) = m ((c.tc : Thread Cert.DiscretiseIdeal.nD Cert.DiscretiseIdeal.τ).loc Cert.DiscretiseIdeal.main_arg1)
          ∧ r.2.mem ((c.tc : Thread Cert.DiscretiseIdeal.nD Cert.DiscretiseIdeal.τ).loc Cert.DiscretiseIdeal.main_arg2) = m ((c.tc : Thread Cert.DiscretiseIdeal.nD Cert.DiscretiseIdeal.τ).loc Cert.DiscretiseIdeal.main_arg2))
      ∧ θ_run (Cert.DiscretiseReferenceIdeal.defs (F := Ideal)) (onTc (τ := Cert.DiscretiseReferenceIdeal.τ) (Cert.DiscretiseReferenceIdeal.main (F := Ideal))) ⟨m', fun _ => 0, g'⟩ (fun r => ∀ c : Dev Cert.DiscretiseReferenceIdeal.nD,
          r.2.mem ((c.tc : Thread Cert.DiscretiseReferenceIdeal.nD Cert.DiscretiseReferenceIdeal.τ).loc Cert.DiscretiseReferenceIdeal.main_v8) = v0 c
          ∧ r.2.mem ((c.tc : Thread Cert.DiscretiseReferenceIdeal.nD Cert.DiscretiseReferenceIdeal.τ).loc Cert.DiscretiseReferenceIdeal.main_v15) = v1 c
          ∧ r.2.mem ((c.tc : Thread Cert.DiscretiseReferenceIdeal.nD Cert.DiscretiseReferenceIdeal.τ).loc Cert.DiscretiseReferenceIdeal.main_v24) = v2 c
          ∧ r.2.mem ((c.tc : Thread Cert.DiscretiseReferenceIdeal.nD Cert.DiscretiseReferenceIdeal.τ).loc Cert.DiscretiseReferenceIdeal.main_v30) = v3 c
          ∧ r.2.mem ((c.tc : Thread Cert.DiscretiseReferenceIdeal.nD Cert.DiscretiseReferenceIdeal.τ).loc Cert.DiscretiseReferenceIdeal.main_arg0) = m' ((c.tc : Thread Cert.DiscretiseReferenceIdeal.nD Cert.DiscretiseReferenceIdeal.τ).loc Cert.DiscretiseReferenceIdeal.main_arg0)
          ∧ r.2.mem ((c.tc : Thread Cert.DiscretiseReferenceIdeal.nD Cert.DiscretiseReferenceIdeal.τ).loc Cert.DiscretiseReferenceIdeal.main_arg1) = m' ((c.tc : Thread Cert.DiscretiseReferenceIdeal.nD Cert.DiscretiseReferenceIdeal.τ).loc Cert.DiscretiseReferenceIdeal.main_arg1)
          ∧ r.2.mem ((c.tc : Thread Cert.DiscretiseReferenceIdeal.nD Cert.DiscretiseReferenceIdeal.τ).loc Cert.DiscretiseReferenceIdeal.main_arg2) = m' ((c.tc : Thread Cert.DiscretiseReferenceIdeal.nD Cert.DiscretiseReferenceIdeal.τ).loc Cert.DiscretiseReferenceIdeal.main_arg2))

def preserves_FirstMerge_FirstMergeIdeal : Prop :=
  True

def algebraic_FirstMergeIdeal_FirstMergeReferenceIdeal [hFirstMergeIdeal : Cert.FirstMergeIdeal.Facts] [hFirstMergeReferenceIdeal : Cert.FirstMergeReferenceIdeal.Facts] : Prop :=
  ∀ (m : (ℓ : Loc Cert.FirstMergeIdeal.nD Cert.FirstMergeIdeal.τ Cert.FirstMergeIdeal.sig) → Buf (Elt Ideal) ℓ) (g : Dev Cert.FirstMergeIdeal.nD → PrngReg)
    (m' : (ℓ : Loc Cert.FirstMergeReferenceIdeal.nD Cert.FirstMergeReferenceIdeal.τ Cert.FirstMergeReferenceIdeal.sig) → Buf (Elt Ideal) ℓ) (g' : Dev Cert.FirstMergeReferenceIdeal.nD → PrngReg), Pre_FirstMergeIdeal m →
    (∀ c : Dev Cert.FirstMergeIdeal.nD,
      m' ((c.tc : Thread Cert.FirstMergeReferenceIdeal.nD Cert.FirstMergeReferenceIdeal.τ).loc Cert.FirstMergeReferenceIdeal.main_arg0) = m ((c.tc : Thread Cert.FirstMergeIdeal.nD Cert.FirstMergeIdeal.τ).loc Cert.FirstMergeIdeal.main_arg0)
      ∧ m' ((c.tc : Thread Cert.FirstMergeReferenceIdeal.nD Cert.FirstMergeReferenceIdeal.τ).loc Cert.FirstMergeReferenceIdeal.main_arg1) = m ((c.tc : Thread Cert.FirstMergeIdeal.nD Cert.FirstMergeIdeal.τ).loc Cert.FirstMergeIdeal.main_arg1)
      ∧ m' ((c.tc : Thread Cert.FirstMergeReferenceIdeal.nD Cert.FirstMergeReferenceIdeal.τ).loc Cert.FirstMergeReferenceIdeal.main_arg2) = m ((c.tc : Thread Cert.FirstMergeIdeal.nD Cert.FirstMergeIdeal.τ).loc Cert.FirstMergeIdeal.main_arg2)
      ∧ m' ((c.tc : Thread Cert.FirstMergeReferenceIdeal.nD Cert.FirstMergeReferenceIdeal.τ).loc Cert.FirstMergeReferenceIdeal.main_arg3) = m ((c.tc : Thread Cert.FirstMergeIdeal.nD Cert.FirstMergeIdeal.τ).loc Cert.FirstMergeIdeal.main_arg3)
      ∧ m' ((c.tc : Thread Cert.FirstMergeReferenceIdeal.nD Cert.FirstMergeReferenceIdeal.τ).loc Cert.FirstMergeReferenceIdeal.main_arg4) = m ((c.tc : Thread Cert.FirstMergeIdeal.nD Cert.FirstMergeIdeal.τ).loc Cert.FirstMergeIdeal.main_arg4)
      ∧ m' ((c.tc : Thread Cert.FirstMergeReferenceIdeal.nD Cert.FirstMergeReferenceIdeal.τ).loc Cert.FirstMergeReferenceIdeal.main_arg5) = m ((c.tc : Thread Cert.FirstMergeIdeal.nD Cert.FirstMergeIdeal.τ).loc Cert.FirstMergeIdeal.main_arg5)
      ∧ m' ((c.tc : Thread Cert.FirstMergeReferenceIdeal.nD Cert.FirstMergeReferenceIdeal.τ).loc Cert.FirstMergeReferenceIdeal.main_arg6) = m ((c.tc : Thread Cert.FirstMergeIdeal.nD Cert.FirstMergeIdeal.τ).loc Cert.FirstMergeIdeal.main_arg6)
      ∧ m' ((c.tc : Thread Cert.FirstMergeReferenceIdeal.nD Cert.FirstMergeReferenceIdeal.τ).loc Cert.FirstMergeReferenceIdeal.main_arg7) = m ((c.tc : Thread Cert.FirstMergeIdeal.nD Cert.FirstMergeIdeal.τ).loc Cert.FirstMergeIdeal.main_arg7)
      ∧ m' ((c.tc : Thread Cert.FirstMergeReferenceIdeal.nD Cert.FirstMergeReferenceIdeal.τ).loc Cert.FirstMergeReferenceIdeal.main_arg8) = m ((c.tc : Thread Cert.FirstMergeIdeal.nD Cert.FirstMergeIdeal.τ).loc Cert.FirstMergeIdeal.main_arg8)
      ∧ m' ((c.tc : Thread Cert.FirstMergeReferenceIdeal.nD Cert.FirstMergeReferenceIdeal.τ).loc Cert.FirstMergeReferenceIdeal.main_arg9) = m ((c.tc : Thread Cert.FirstMergeIdeal.nD Cert.FirstMergeIdeal.τ).loc Cert.FirstMergeIdeal.main_arg9)) →
    ∃ (v0 : (c : Dev Cert.FirstMergeIdeal.nD) → Buf (Elt Ideal) ((c.tc : Thread Cert.FirstMergeIdeal.nD Cert.FirstMergeIdeal.τ).loc Cert.FirstMergeIdeal.main_v9)),
      θ_run (Cert.FirstMergeIdeal.defs (F := Ideal)) (onTc (τ := Cert.FirstMergeIdeal.τ) (Cert.FirstMergeIdeal.main (F := Ideal))) ⟨m, fun _ => 0, g⟩ (fun r => ∀ c : Dev Cert.FirstMergeIdeal.nD,
          r.2.mem ((c.tc : Thread Cert.FirstMergeIdeal.nD Cert.FirstMergeIdeal.τ).loc Cert.FirstMergeIdeal.main_v9) = v0 c
          ∧ r.2.mem ((c.tc : Thread Cert.FirstMergeIdeal.nD Cert.FirstMergeIdeal.τ).loc Cert.FirstMergeIdeal.main_arg0) = m ((c.tc : Thread Cert.FirstMergeIdeal.nD Cert.FirstMergeIdeal.τ).loc Cert.FirstMergeIdeal.main_arg0)
          ∧ r.2.mem ((c.tc : Thread Cert.FirstMergeIdeal.nD Cert.FirstMergeIdeal.τ).loc Cert.FirstMergeIdeal.main_arg1) = m ((c.tc : Thread Cert.FirstMergeIdeal.nD Cert.FirstMergeIdeal.τ).loc Cert.FirstMergeIdeal.main_arg1)
          ∧ r.2.mem ((c.tc : Thread Cert.FirstMergeIdeal.nD Cert.FirstMergeIdeal.τ).loc Cert.FirstMergeIdeal.main_arg2) = m ((c.tc : Thread Cert.FirstMergeIdeal.nD Cert.FirstMergeIdeal.τ).loc Cert.FirstMergeIdeal.main_arg2)
          ∧ r.2.mem ((c.tc : Thread Cert.FirstMergeIdeal.nD Cert.FirstMergeIdeal.τ).loc Cert.FirstMergeIdeal.main_arg3) = m ((c.tc : Thread Cert.FirstMergeIdeal.nD Cert.FirstMergeIdeal.τ).loc Cert.FirstMergeIdeal.main_arg3)
          ∧ r.2.mem ((c.tc : Thread Cert.FirstMergeIdeal.nD Cert.FirstMergeIdeal.τ).loc Cert.FirstMergeIdeal.main_arg4) = m ((c.tc : Thread Cert.FirstMergeIdeal.nD Cert.FirstMergeIdeal.τ).loc Cert.FirstMergeIdeal.main_arg4)
          ∧ r.2.mem ((c.tc : Thread Cert.FirstMergeIdeal.nD Cert.FirstMergeIdeal.τ).loc Cert.FirstMergeIdeal.main_arg5) = m ((c.tc : Thread Cert.FirstMergeIdeal.nD Cert.FirstMergeIdeal.τ).loc Cert.FirstMergeIdeal.main_arg5)
          ∧ r.2.mem ((c.tc : Thread Cert.FirstMergeIdeal.nD Cert.FirstMergeIdeal.τ).loc Cert.FirstMergeIdeal.main_arg6) = m ((c.tc : Thread Cert.FirstMergeIdeal.nD Cert.FirstMergeIdeal.τ).loc Cert.FirstMergeIdeal.main_arg6)
          ∧ r.2.mem ((c.tc : Thread Cert.FirstMergeIdeal.nD Cert.FirstMergeIdeal.τ).loc Cert.FirstMergeIdeal.main_arg7) = m ((c.tc : Thread Cert.FirstMergeIdeal.nD Cert.FirstMergeIdeal.τ).loc Cert.FirstMergeIdeal.main_arg7)
          ∧ r.2.mem ((c.tc : Thread Cert.FirstMergeIdeal.nD Cert.FirstMergeIdeal.τ).loc Cert.FirstMergeIdeal.main_arg8) = m ((c.tc : Thread Cert.FirstMergeIdeal.nD Cert.FirstMergeIdeal.τ).loc Cert.FirstMergeIdeal.main_arg8)
          ∧ r.2.mem ((c.tc : Thread Cert.FirstMergeIdeal.nD Cert.FirstMergeIdeal.τ).loc Cert.FirstMergeIdeal.main_arg9) = m ((c.tc : Thread Cert.FirstMergeIdeal.nD Cert.FirstMergeIdeal.τ).loc Cert.FirstMergeIdeal.main_arg9))
      ∧ θ_run (Cert.FirstMergeReferenceIdeal.defs (F := Ideal)) (onTc (τ := Cert.FirstMergeReferenceIdeal.τ) (Cert.FirstMergeReferenceIdeal.main (F := Ideal))) ⟨m', fun _ => 0, g'⟩ (fun r => ∀ c : Dev Cert.FirstMergeReferenceIdeal.nD,
          r.2.mem ((c.tc : Thread Cert.FirstMergeReferenceIdeal.nD Cert.FirstMergeReferenceIdeal.τ).loc Cert.FirstMergeReferenceIdeal.main_v69) = v0 c
          ∧ r.2.mem ((c.tc : Thread Cert.FirstMergeReferenceIdeal.nD Cert.FirstMergeReferenceIdeal.τ).loc Cert.FirstMergeReferenceIdeal.main_arg0) = m' ((c.tc : Thread Cert.FirstMergeReferenceIdeal.nD Cert.FirstMergeReferenceIdeal.τ).loc Cert.FirstMergeReferenceIdeal.main_arg0)
          ∧ r.2.mem ((c.tc : Thread Cert.FirstMergeReferenceIdeal.nD Cert.FirstMergeReferenceIdeal.τ).loc Cert.FirstMergeReferenceIdeal.main_arg1) = m' ((c.tc : Thread Cert.FirstMergeReferenceIdeal.nD Cert.FirstMergeReferenceIdeal.τ).loc Cert.FirstMergeReferenceIdeal.main_arg1)
          ∧ r.2.mem ((c.tc : Thread Cert.FirstMergeReferenceIdeal.nD Cert.FirstMergeReferenceIdeal.τ).loc Cert.FirstMergeReferenceIdeal.main_arg2) = m' ((c.tc : Thread Cert.FirstMergeReferenceIdeal.nD Cert.FirstMergeReferenceIdeal.τ).loc Cert.FirstMergeReferenceIdeal.main_arg2)
          ∧ r.2.mem ((c.tc : Thread Cert.FirstMergeReferenceIdeal.nD Cert.FirstMergeReferenceIdeal.τ).loc Cert.FirstMergeReferenceIdeal.main_arg3) = m' ((c.tc : Thread Cert.FirstMergeReferenceIdeal.nD Cert.FirstMergeReferenceIdeal.τ).loc Cert.FirstMergeReferenceIdeal.main_arg3)
          ∧ r.2.mem ((c.tc : Thread Cert.FirstMergeReferenceIdeal.nD Cert.FirstMergeReferenceIdeal.τ).loc Cert.FirstMergeReferenceIdeal.main_arg4) = m' ((c.tc : Thread Cert.FirstMergeReferenceIdeal.nD Cert.FirstMergeReferenceIdeal.τ).loc Cert.FirstMergeReferenceIdeal.main_arg4)
          ∧ r.2.mem ((c.tc : Thread Cert.FirstMergeReferenceIdeal.nD Cert.FirstMergeReferenceIdeal.τ).loc Cert.FirstMergeReferenceIdeal.main_arg5) = m' ((c.tc : Thread Cert.FirstMergeReferenceIdeal.nD Cert.FirstMergeReferenceIdeal.τ).loc Cert.FirstMergeReferenceIdeal.main_arg5)
          ∧ r.2.mem ((c.tc : Thread Cert.FirstMergeReferenceIdeal.nD Cert.FirstMergeReferenceIdeal.τ).loc Cert.FirstMergeReferenceIdeal.main_arg6) = m' ((c.tc : Thread Cert.FirstMergeReferenceIdeal.nD Cert.FirstMergeReferenceIdeal.τ).loc Cert.FirstMergeReferenceIdeal.main_arg6)
          ∧ r.2.mem ((c.tc : Thread Cert.FirstMergeReferenceIdeal.nD Cert.FirstMergeReferenceIdeal.τ).loc Cert.FirstMergeReferenceIdeal.main_arg7) = m' ((c.tc : Thread Cert.FirstMergeReferenceIdeal.nD Cert.FirstMergeReferenceIdeal.τ).loc Cert.FirstMergeReferenceIdeal.main_arg7)
          ∧ r.2.mem ((c.tc : Thread Cert.FirstMergeReferenceIdeal.nD Cert.FirstMergeReferenceIdeal.τ).loc Cert.FirstMergeReferenceIdeal.main_arg8) = m' ((c.tc : Thread Cert.FirstMergeReferenceIdeal.nD Cert.FirstMergeReferenceIdeal.τ).loc Cert.FirstMergeReferenceIdeal.main_arg8)
          ∧ r.2.mem ((c.tc : Thread Cert.FirstMergeReferenceIdeal.nD Cert.FirstMergeReferenceIdeal.τ).loc Cert.FirstMergeReferenceIdeal.main_arg9) = m' ((c.tc : Thread Cert.FirstMergeReferenceIdeal.nD Cert.FirstMergeReferenceIdeal.τ).loc Cert.FirstMergeReferenceIdeal.main_arg9))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hModulation : Cert.Modulation.Facts) (hModulationIdeal : Cert.ModulationIdeal.Facts) (hModulationReferenceIdeal : Cert.ModulationReferenceIdeal.Facts) (hDiscretise : Cert.Discretise.Facts) (hDiscretiseIdeal : Cert.DiscretiseIdeal.Facts) (hDiscretiseReferenceIdeal : Cert.DiscretiseReferenceIdeal.Facts) (hFirstMerge : Cert.FirstMerge.Facts) (hFirstMergeIdeal : Cert.FirstMergeIdeal.Facts) (hFirstMergeReferenceIdeal : Cert.FirstMergeReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_Discretise (hDiscretise := hDiscretise)
    ∧ quiescent_DiscretiseIdeal (hDiscretiseIdeal := hDiscretiseIdeal)
    ∧ quiescent_DiscretiseReferenceIdeal (hDiscretiseReferenceIdeal := hDiscretiseReferenceIdeal)
    ∧ quiescent_FirstMerge (hFirstMerge := hFirstMerge)
    ∧ quiescent_FirstMergeIdeal (hFirstMergeIdeal := hFirstMergeIdeal)
    ∧ quiescent_FirstMergeReferenceIdeal (hFirstMergeReferenceIdeal := hFirstMergeReferenceIdeal)
    ∧ preserves_Kernel_KernelIdeal
    ∧ preserves_Merge_MergeIdeal
    ∧ algebraic_MergeIdeal_MergeReferenceIdeal (hMergeIdeal := hMergeIdeal) (hMergeReferenceIdeal := hMergeReferenceIdeal)
    ∧ preserves_Modulation_ModulationIdeal
    ∧ algebraic_ModulationIdeal_ModulationReferenceIdeal (hModulationIdeal := hModulationIdeal) (hModulationReferenceIdeal := hModulationReferenceIdeal)
    ∧ preserves_Discretise_DiscretiseIdeal
    ∧ algebraic_DiscretiseIdeal_DiscretiseReferenceIdeal (hDiscretiseIdeal := hDiscretiseIdeal) (hDiscretiseReferenceIdeal := hDiscretiseReferenceIdeal)
    ∧ preserves_FirstMerge_FirstMergeIdeal
    ∧ algebraic_FirstMergeIdeal_FirstMergeReferenceIdeal (hFirstMergeIdeal := hFirstMergeIdeal) (hFirstMergeReferenceIdeal := hFirstMergeReferenceIdeal)
-- ==== Kernel.lean ====
abbrev S8x4096x1024 : Shape := ⟨3, ![8, 4096, 1024]⟩
abbrev S2x8x3072 : Shape := ⟨3, ![2, 8, 3072]⟩
abbrev S2x1024 : Shape := ⟨2, ![2, 1024]⟩
abbrev S2x1024x6400 : Shape := ⟨3, ![2, 1024, 6400]⟩
abbrev S2x8 : Shape := ⟨2, ![2, 8]⟩
abbrev S2x32x64 : Shape := ⟨3, ![2, 32, 64]⟩
abbrev S2x32x64x16 : Shape := ⟨4, ![2, 32, 64, 16]⟩
abbrev S2x32x16x64 : Shape := ⟨4, ![2, 32, 16, 64]⟩
abbrev S2x512 : Shape := ⟨2, ![2, 512]⟩
abbrev S2x512x512 : Shape := ⟨3, ![2, 512, 512]⟩
abbrev S2x4x128x128 : Shape := ⟨4, ![2, 4, 128, 128]⟩
abbrev S2x8x3x1024 : Shape := ⟨4, ![2, 8, 3, 1024]⟩
abbrev S2x3x8x1024 : Shape := ⟨4, ![2, 3, 8, 1024]⟩
abbrev S2x3x8x1x1024 : Shape := ⟨5, ![2, 3, 8, 1, 1024]⟩
abbrev S2x1x1024 : Shape := ⟨3, ![2, 1, 1024]⟩
abbrev S_ : Shape := ⟨0, ![]⟩
abbrev S1x1 : Shape := ⟨2, ![1, 1]⟩
abbrev S2x32x64x1 : Shape := ⟨4, ![2, 32, 64, 1]⟩
abbrev S2x4x8x16x64 : Shape := ⟨5, ![2, 4, 8, 16, 64]⟩
abbrev S128x512 : Shape := ⟨2, ![128, 512]⟩
abbrev S2x4x128x64 : Shape := ⟨4, ![2, 4, 128, 64]⟩
abbrev S1x2x1x4x1x128x1x64 : Shape := ⟨8, ![1, 2, 1, 4, 1, 128, 1, 64]⟩
abbrev S1x2x1x4x1x128x8x64 : Shape := ⟨8, ![1, 2, 1, 4, 1, 128, 8, 64]⟩
abbrev S2x4x128x512 : Shape := ⟨4, ![2, 4, 128, 512]⟩
abbrev S1x1x128x512 : Shape := ⟨4, ![1, 1, 128, 512]⟩
abbrev S2x4x128x1024 : Shape := ⟨4, ![2, 4, 128, 1024]⟩
abbrev S2x4x8x64x16 : Shape := ⟨5, ![2, 4, 8, 64, 16]⟩
abbrev S512x128 : Shape := ⟨2, ![512, 128]⟩
abbrev S2x4x512x16 : Shape := ⟨4, ![2, 4, 512, 16]⟩
abbrev S1x2x1x4x1x512x1x16 : Shape := ⟨8, ![1, 2, 1, 4, 1, 512, 1, 16]⟩
abbrev S1x2x1x4x1x512x8x16 : Shape := ⟨8, ![1, 2, 1, 4, 1, 512, 8, 16]⟩
abbrev S2x4x512x128 : Shape := ⟨4, ![2, 4, 512, 128]⟩
abbrev S1x1x512x128 : Shape := ⟨4, ![1, 1, 512, 128]⟩
abbrev S2x2048 : Shape := ⟨2, ![2, 2048]⟩
abbrev S2x1x2048 : Shape := ⟨3, ![2, 1, 2048]⟩
abbrev S2x2x2048 : Shape := ⟨3, ![2, 2, 2048]⟩
abbrev S2x1x512 : Shape := ⟨3, ![2, 1, 512]⟩
abbrev S8x4096x1536 : Shape := ⟨3, ![8, 4096, 1536]⟩
abbrev S8x64x1024 : Shape := ⟨3, ![8, 64, 1024]⟩
abbrev S1x3x8x1x1024 : Shape := ⟨5, ![1, 3, 8, 1, 1024]⟩
abbrev S1x1x1024 : Shape := ⟨3, ![1, 1, 1024]⟩
abbrev S1x1024x512 : Shape := ⟨3, ![1, 1024, 512]⟩
abbrev S1x1024x256 : Shape := ⟨3, ![1, 1024, 256]⟩
abbrev S1x4x128x1024 : Shape := ⟨4, ![1, 4, 128, 1024]⟩
abbrev S1x4x512x128 : Shape := ⟨4, ![1, 4, 512, 128]⟩
abbrev S1x2x2048 : Shape := ⟨3, ![1, 2, 2048]⟩
abbrev S1x1x512 : Shape := ⟨3, ![1, 1, 512]⟩
abbrev S1x512x512 : Shape := ⟨3, ![1, 512, 512]⟩
abbrev S1x4x128x128 : Shape := ⟨4, ![1, 4, 128, 128]⟩
abbrev S8x64x1536 : Shape := ⟨3, ![8, 64, 1536]⟩
abbrev S512x1024 : Shape := ⟨2, ![512, 1024]⟩
abbrev S512x1280 : Shape := ⟨2, ![512, 1280]⟩
abbrev S8x512x192 : Shape := ⟨3, ![8, 512, 192]⟩
abbrev S8x192x128 : Shape := ⟨3, ![8, 192, 128]⟩
abbrev S512x512 : Shape := ⟨2, ![512, 512]⟩
abbrev S512x4224 : Shape := ⟨2, ![512, 4224]⟩
abbrev S8x4096 : Shape := ⟨2, ![8, 4096]⟩
abbrev S8x80x512 : Shape := ⟨3, ![8, 80, 512]⟩
abbrev S1024x512 : Shape := ⟨2, ![1024, 512]⟩
abbrev S1024x256 : Shape := ⟨2, ![1024, 256]⟩
abbrev S4x128x128 : Shape := ⟨3, ![4, 128, 128]⟩
abbrev S8x16x512 : Shape := ⟨3, ![8, 16, 512]⟩
abbrev S8x64 : Shape := ⟨2, ![8, 64]⟩
abbrev S8x64x1 : Shape := ⟨3, ![8, 64, 1]⟩
abbrev S1x1024 : Shape := ⟨2, ![1, 1024]⟩
abbrev S1x1x8x1x1024 : Shape := ⟨5, ![1, 1, 8, 1, 1024]⟩
abbrev S8x1x1024 : Shape := ⟨3, ![8, 1, 1024]⟩
abbrev S512x256 : Shape := ⟨2, ![512, 256]⟩
abbrev S1x128x128 : Shape := ⟨3, ![1, 128, 128]⟩
abbrev S128x128 : Shape := ⟨2, ![128, 128]⟩
abbrev S8x64x128 : Shape := ⟨3, ![8, 64, 128]⟩
abbrev S8x64x512 : Shape := ⟨3, ![8, 64, 512]⟩
abbrev S64x128 : Shape := ⟨2, ![64, 128]⟩
abbrev S1x192x128 : Shape := ⟨3, ![1, 192, 128]⟩
abbrev S192x128 : Shape := ⟨2, ![192, 128]⟩
abbrev S512x192 : Shape := ⟨2, ![512, 192]⟩
abbrev S1x512x192 : Shape := ⟨3, ![1, 512, 192]⟩
abbrev S64x8x512 : Shape := ⟨3, ![64, 8, 512]⟩
abbrev S128x192 : Shape := ⟨2, ![128, 192]⟩
abbrev S128x1 : Shape := ⟨2, ![128, 1]⟩
abbrev S1x128x192 : Shape := ⟨3, ![1, 128, 192]⟩
abbrev S128 : Shape := ⟨1, ![128]⟩
abbrev S1x1x128x1024 : Shape := ⟨4, ![1, 1, 128, 1024]⟩
abbrev S128x1024 : Shape := ⟨2, ![128, 1024]⟩
abbrev S1x512 : Shape := ⟨2, ![1, 512]⟩
abbrev S8x512 : Shape := ⟨2, ![8, 512]⟩
abbrev S1x64x1 : Shape := ⟨3, ![1, 64, 1]⟩
abbrev S8x80x128 : Shape := ⟨3, ![8, 80, 128]⟩
abbrev S1x64x128 : Shape := ⟨3, ![1, 64, 128]⟩

abbrev nBuf : Space → Nat
  | .hbm => 250
  | .vmem => 44
  | .smem => 1
  | _ => 0

abbrev hbmTy0_0 (i : Nat) : BufTy := match i % 128 with
  | 0 => ⟨S8x4096x1024, .f32⟩
  | 1 => ⟨S2x8x3072, .f32⟩
  | 2 => ⟨S2x1024, .f32⟩
  | 3 => ⟨S2x1024x6400, .f32⟩
  | 4 => ⟨S2x8, .f32⟩
  | 5 => ⟨S2x32x64, .f32⟩
  | 6 => ⟨S2x32x64, .f32⟩
  | 7 => ⟨S2x32x64, .f32⟩
  | 8 => ⟨S2x32x64, .f32⟩
  | 9 => ⟨S2x32x64x16, .f32⟩
  | 10 => ⟨S2x32x64x16, .f32⟩
  | 11 => ⟨S2x32x16x64, .f32⟩
  | 12 => ⟨S2x32x16x64, .f32⟩
  | 13 => ⟨S2x512, .f32⟩
  | 14 => ⟨S2x512x512, .f32⟩
  | 15 => ⟨S2x512, .f32⟩
  | 16 => ⟨S2x4x128x128, .f32⟩
  | 17 => ⟨S2x512, .f32⟩
  | 18 => ⟨S2x8x3x1024, .f32⟩
  | 19 => ⟨S2x3x8x1024, .f32⟩
  | 20 => ⟨S2x3x8x1x1024, .f32⟩
  | 21 => ⟨S2x1x1024, .f32⟩
  | 22 => ⟨S_, .f32⟩
  | 23 => ⟨S1x1, .f32⟩
  | 24 => ⟨S2x32x64x1, .f32⟩
  | 25 => ⟨S2x32x64x1, .f32⟩
  | 26 => ⟨S2x32x64x16, .f32⟩
  | 27 => ⟨S2x32x64x16, .f32⟩
  | 28 => ⟨S2x32x64x16, .f32⟩
  | 29 => ⟨S2x32x64x16, .f32⟩
  | 30 => ⟨S2x32x64x16, .f32⟩
  | 31 => ⟨S2x32x64x16, .f32⟩
  | 32 => ⟨S2x32x64x16, .f32⟩
  | 33 => ⟨S2x32x64x16, .f32⟩
  | 34 => ⟨S2x32x64x16, .f32⟩
  | 35 => ⟨S2x32x64x16, .f32⟩
  | 36 => ⟨S2x32x16x64, .f32⟩
  | 37 => ⟨S2x4x8x16x64, .f32⟩
  | 38 => ⟨S2x32x16x64, .f32⟩
  | 39 => ⟨S2x4x8x16x64, .f32⟩
  | 40 => ⟨S128x512, .i32⟩
  | 41 => ⟨S_, .i32⟩
  | 42 => ⟨S_, .i32⟩
  | 43 => ⟨S128x512, .i32⟩
  | 44 => ⟨S128x512, .i32⟩
  | 45 => ⟨S128x512, .i32⟩
  | 46 => ⟨S_, .i32⟩
  | 47 => ⟨S128x512, .i32⟩
  | 48 => ⟨S128x512, .i1⟩
  | 49 => ⟨S128x512, .i32⟩
  | 50 => ⟨S128x512, .i32⟩
  | 51 => ⟨S_, .i32⟩
  | 52 => ⟨S128x512, .i32⟩
  | 53 => ⟨S128x512, .i1⟩
  | 54 => ⟨S128x512, .i1⟩
  | 55 => ⟨S_, .i32⟩
  | 56 => ⟨S128x512, .i32⟩
  | 57 => ⟨S128x512, .i32⟩
  | 58 => ⟨S128x512, .i32⟩
  | 59 => ⟨S128x512, .i32⟩
  | 60 => ⟨S_, .i32⟩
  | 61 => ⟨S_, .i32⟩
  | 62 => ⟨S128x512, .i32⟩
  | 63 => ⟨S128x512, .i32⟩
  | 64 => ⟨S128x512, .i32⟩
  | 65 => ⟨S_, .i32⟩
  | 66 => ⟨S128x512, .i32⟩
  | 67 => ⟨S128x512, .i1⟩
  | 68 => ⟨S128x512, .i32⟩
  | 69 => ⟨S128x512, .i32⟩
  | 70 => ⟨S_, .i32⟩
  | 71 => ⟨S128x512, .i32⟩
  | 72 => ⟨S128x512, .i1⟩
  | 73 => ⟨S128x512, .i1⟩
  | 74 => ⟨S_, .i32⟩
  | 75 => ⟨S128x512, .i32⟩
  | 76 => ⟨S128x512, .i32⟩
  | 77 => ⟨S128x512, .i32⟩
  | 78 => ⟨S128x512, .i1⟩
  | 79 => ⟨S128x512, .f32⟩
  | 80 => ⟨S2x4x128x64, .f32⟩
  | 81 => ⟨S1x2x1x4x1x128x1x64, .f32⟩
  | 82 => ⟨S1x2x1x4x1x128x8x64, .f32⟩
  | 83 => ⟨S2x4x128x512, .f32⟩
  | 84 => ⟨S1x1x128x512, .f32⟩
  | 85 => ⟨S2x4x128x512, .f32⟩
  | 86 => ⟨S2x4x128x512, .f32⟩
  | 87 => ⟨S128x512, .i32⟩
  | 88 => ⟨S_, .i32⟩
  | 89 => ⟨S_, .i32⟩
  | 90 => ⟨S128x512, .i32⟩
  | 91 => ⟨S128x512, .i32⟩
  | 92 => ⟨S128x512, .i32⟩
  | 93 => ⟨S_, .i32⟩
  | 94 => ⟨S128x512, .i32⟩
  | 95 => ⟨S128x512, .i1⟩
  | 96 => ⟨S128x512, .i32⟩
  | 97 => ⟨S128x512, .i32⟩
  | 98 => ⟨S_, .i32⟩
  | 99 => ⟨S128x512, .i32⟩
  | 100 => ⟨S128x512, .i1⟩
  | 101 => ⟨S128x512, .i1⟩
  | 102 => ⟨S_, .i32⟩
  | 103 => ⟨S128x512, .i32⟩
  | 104 => ⟨S128x512, .i32⟩
  | 105 => ⟨S128x512, .i32⟩
  | 106 => ⟨S128x512, .i32⟩
  | 107 => ⟨S_, .i32⟩
  | 108 => ⟨S_, .i32⟩
  | 109 => ⟨S128x512, .i32⟩
  | 110 => ⟨S128x512, .i32⟩
  | 111 => ⟨S128x512, .i32⟩
  | 112 => ⟨S_, .i32⟩
  | 113 => ⟨S128x512, .i32⟩
  | 114 => ⟨S128x512, .i1⟩
  | 115 => ⟨S128x512, .i32⟩
  | 116 => ⟨S128x512, .i32⟩
  | 117 => ⟨S_, .i32⟩
  | 118 => ⟨S128x512, .i32⟩
  | 119 => ⟨S128x512, .i1⟩
  | 120 => ⟨S128x512, .i1⟩
  | 121 => ⟨S_, .i32⟩
  | 122 => ⟨S128x512, .i32⟩
  | 123 => ⟨S128x512, .i32⟩
  | 124 => ⟨S128x512, .i32⟩
  | 125 => ⟨S128x512, .i1⟩
  | 126 => ⟨S128x512, .f32⟩
  | 127 => ⟨S2x4x128x64, .f32⟩
  | _ => ⟨S8x4096x1024, .f32⟩

abbrev hbmTy0_1 (i : Nat) : BufTy := match i % 128 with
  | 0 => ⟨S1x2x1x4x1x128x1x64, .f32⟩
  | 1 => ⟨S1x2x1x4x1x128x8x64, .f32⟩
  | 2 => ⟨S2x4x128x512, .f32⟩
  | 3 => ⟨S1x1x128x512, .f32⟩
  | 4 => ⟨S2x4x128x512, .f32⟩
  | 5 => ⟨S2x4x128x512, .f32⟩
  | 6 => ⟨S2x4x128x1024, .f32⟩
  | 7 => ⟨S2x4x128x1024, .bf16⟩
  | 8 => ⟨S2x32x64x16, .f32⟩
  | 9 => ⟨S2x4x8x64x16, .f32⟩
  | 10 => ⟨S2x32x16x64, .f32⟩
  | 11 => ⟨S2x32x64x16, .f32⟩
  | 12 => ⟨S2x4x8x64x16, .f32⟩
  | 13 => ⟨S512x128, .i32⟩
  | 14 => ⟨S_, .i32⟩
  | 15 => ⟨S_, .i32⟩
  | 16 => ⟨S512x128, .i32⟩
  | 17 => ⟨S512x128, .i32⟩
  | 18 => ⟨S512x128, .i32⟩
  | 19 => ⟨S_, .i32⟩
  | 20 => ⟨S512x128, .i32⟩
  | 21 => ⟨S512x128, .i1⟩
  | 22 => ⟨S512x128, .i32⟩
  | 23 => ⟨S512x128, .i32⟩
  | 24 => ⟨S_, .i32⟩
  | 25 => ⟨S512x128, .i32⟩
  | 26 => ⟨S512x128, .i1⟩
  | 27 => ⟨S512x128, .i1⟩
  | 28 => ⟨S_, .i32⟩
  | 29 => ⟨S512x128, .i32⟩
  | 30 => ⟨S512x128, .i32⟩
  | 31 => ⟨S512x128, .i32⟩
  | 32 => ⟨S512x128, .i32⟩
  | 33 => ⟨S_, .i32⟩
  | 34 => ⟨S_, .i32⟩
  | 35 => ⟨S512x128, .i32⟩
  | 36 => ⟨S512x128, .i32⟩
  | 37 => ⟨S512x128, .i32⟩
  | 38 => ⟨S_, .i32⟩
  | 39 => ⟨S512x128, .i32⟩
  | 40 => ⟨S512x128, .i1⟩
  | 41 => ⟨S512x128, .i32⟩
  | 42 => ⟨S512x128, .i32⟩
  | 43 => ⟨S_, .i32⟩
  | 44 => ⟨S512x128, .i32⟩
  | 45 => ⟨S512x128, .i1⟩
  | 46 => ⟨S512x128, .i1⟩
  | 47 => ⟨S_, .i32⟩
  | 48 => ⟨S512x128, .i32⟩
  | 49 => ⟨S512x128, .i32⟩
  | 50 => ⟨S512x128, .i32⟩
  | 51 => ⟨S512x128, .i1⟩
  | 52 => ⟨S512x128, .f32⟩
  | 53 => ⟨S2x4x512x16, .f32⟩
  | 54 => ⟨S1x2x1x4x1x512x1x16, .f32⟩
  | 55 => ⟨S1x2x1x4x1x512x8x16, .f32⟩
  | 56 => ⟨S2x4x512x128, .f32⟩
  | 57 => ⟨S1x1x512x128, .f32⟩
  | 58 => ⟨S2x4x512x128, .f32⟩
  | 59 => ⟨S2x4x512x128, .f32⟩
  | 60 => ⟨S2x4x512x128, .bf16⟩
  | 61 => ⟨S512x128, .i32⟩
  | 62 => ⟨S_, .i32⟩
  | 63 => ⟨S_, .i32⟩
  | 64 => ⟨S512x128, .i32⟩
  | 65 => ⟨S512x128, .i32⟩
  | 66 => ⟨S512x128, .i32⟩
  | 67 => ⟨S_, .i32⟩
  | 68 => ⟨S512x128, .i32⟩
  | 69 => ⟨S512x128, .i1⟩
  | 70 => ⟨S512x128, .i32⟩
  | 71 => ⟨S512x128, .i32⟩
  | 72 => ⟨S_, .i32⟩
  | 73 => ⟨S512x128, .i32⟩
  | 74 => ⟨S512x128, .i1⟩
  | 75 => ⟨S512x128, .i1⟩
  | 76 => ⟨S_, .i32⟩
  | 77 => ⟨S512x128, .i32⟩
  | 78 => ⟨S512x128, .i32⟩
  | 79 => ⟨S512x128, .i32⟩
  | 80 => ⟨S512x128, .i32⟩
  | 81 => ⟨S_, .i32⟩
  | 82 => ⟨S_, .i32⟩
  | 83 => ⟨S512x128, .i32⟩
  | 84 => ⟨S512x128, .i32⟩
  | 85 => ⟨S512x128, .i32⟩
  | 86 => ⟨S_, .i32⟩
  | 87 => ⟨S512x128, .i32⟩
  | 88 => ⟨S512x128, .i1⟩
  | 89 => ⟨S512x128, .i32⟩
  | 90 => ⟨S512x128, .i32⟩
  | 91 => ⟨S_, .i32⟩
  | 92 => ⟨S512x128, .i32⟩
  | 93 => ⟨S512x128, .i1⟩
  | 94 => ⟨S512x128, .i1⟩
  | 95 => ⟨S_, .i32⟩
  | 96 => ⟨S512x128, .i32⟩
  | 97 => ⟨S512x128, .i32⟩
  | 98 => ⟨S512x128, .i32⟩
  | 99 => ⟨S512x128, .i1⟩
  | 100 => ⟨S512x128, .f32⟩
  | 101 => ⟨S2x4x512x16, .f32⟩
  | 102 => ⟨S1x2x1x4x1x512x1x16, .f32⟩
  | 103 => ⟨S1x2x1x4x1x512x8x16, .f32⟩
  | 104 => ⟨S2x4x512x128, .f32⟩
  | 105 => ⟨S1x1x512x128, .f32⟩
  | 106 => ⟨S2x4x512x128, .f32⟩
  | 107 => ⟨S2x4x512x128, .f32⟩
  | 108 => ⟨S2x4x512x128, .bf16⟩
  | 109 => ⟨S2x2048, .f32⟩
  | 110 => ⟨S2x2048, .f32⟩
  | 111 => ⟨S2x1x2048, .f32⟩
  | 112 => ⟨S2x1x2048, .f32⟩
  | 113 => ⟨S2x2x2048, .f32⟩
  | 114 => ⟨S2x1x512, .f32⟩
  | 115 => ⟨S2x1x512, .f32⟩
  | 116 => ⟨S2x1x512, .f32⟩
  | 117 => ⟨S1x1, .bf16⟩
  | 118 => ⟨S1x1, .bf16⟩
  | 119 => ⟨S1x1, .bf16⟩
  | 120 => ⟨S1x1, .bf16⟩
  | 121 => ⟨S8x4096x1536, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S8x64x1024, .f32⟩
  | .local _ .vmem, ⟨1, _⟩ => ⟨S8x64x1024, .f32⟩
  | .local _ .vmem, ⟨2, _⟩ => ⟨S1x3x8x1x1024, .f32⟩
  | .local _ .vmem, ⟨3, _⟩ => ⟨S1x1x1024, .f32⟩
  | .local _ .vmem, ⟨4, _⟩ => ⟨S1x1024x512, .f32⟩
  | .local _ .vmem, ⟨5, _⟩ => ⟨S1x1024x256, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x4x128x1024, .bf16⟩
  | .local _ .vmem, ⟨12, _⟩ => ⟨S1x4x512x128, .bf16⟩
  | .local _ .vmem, ⟨13, _⟩ => ⟨S1x4x512x128, .bf16⟩
  | .local _ .vmem, ⟨14, _⟩ => ⟨S1x2x2048, .f32⟩
  | .local _ .vmem, ⟨15, _⟩ => ⟨S1x1x512, .f32⟩
  | .local _ .vmem, ⟨16, _⟩ => ⟨S1x512x512, .f32⟩
  | .local _ .vmem, ⟨17, _⟩ => ⟨S1x1x512, .f32⟩
  | .local _ .vmem, ⟨18, _⟩ => ⟨S1x4x128x128, .f32⟩
  | .local _ .vmem, ⟨19, _⟩ => ⟨S1x1x512, .f32⟩
  | .local _ .vmem, ⟨20, _⟩ => ⟨S8x64x1536, .bf16⟩
  | .local _ .vmem, ⟨21, _⟩ => ⟨S8x64x1536, .bf16⟩
  | .local _ .vmem, ⟨22, _⟩ => ⟨S512x1024, .bf16⟩
  | .local _ .vmem, ⟨23, _⟩ => ⟨S512x1280, .f32⟩
  | .local _ .vmem, ⟨24, _⟩ => ⟨S8x512x192, .f32⟩
  | .local _ .vmem, ⟨25, _⟩ => ⟨S8x512x192, .bf16⟩
  | .local _ .vmem, ⟨26, _⟩ => ⟨S8x192x128, .bf16⟩
  | .local _ .vmem, ⟨27, _⟩ => ⟨S8x192x128, .bf16⟩
  | .local _ .vmem, ⟨28, _⟩ => ⟨S512x1024, .f32⟩
  | .local _ .vmem, ⟨29, _⟩ => ⟨S512x512, .bf16⟩
  | .local _ .vmem, ⟨30, _⟩ => ⟨S512x4224, .f32⟩
  | .local _ .vmem, ⟨31, _⟩ => ⟨S8x4096, .f32⟩
  | .local _ .vmem, ⟨32, _⟩ => ⟨S512x512, .f32⟩
  | .local _ .vmem, ⟨33, _⟩ => ⟨S8x80x512, .f32⟩
  | .local _ .vmem, ⟨34, _⟩ => ⟨S512x512, .f32⟩
  | .local _ .vmem, ⟨35, _⟩ => ⟨S1024x512, .bf16⟩
  | .local _ .vmem, ⟨36, _⟩ => ⟨S1024x256, .bf16⟩
  | .local _ .vmem, ⟨37, _⟩ => ⟨S1024x512, .bf16⟩
  | .local _ .vmem, ⟨38, _⟩ => ⟨S1024x512, .bf16⟩
  | .local _ .vmem, ⟨39, _⟩ => ⟨S1024x512, .bf16⟩
  | .local _ .vmem, ⟨40, _⟩ => ⟨S1024x512, .bf16⟩
  | .local _ .vmem, ⟨41, _⟩ => ⟨S1024x512, .bf16⟩
  | .local _ .vmem, ⟨42, _⟩ => ⟨S512x512, .bf16⟩
  | .local _ .vmem, ⟨43, _⟩ => ⟨S4x128x128, .bf16⟩
  | .local _ .smem, ⟨0, _⟩ => ⟨S2x8, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v22 : Ref sig .tc := ⟨.hbm, 58, rfl⟩
abbrev main_v23 : Ref sig .tc := ⟨.hbm, 59, rfl⟩
abbrev main_c_0 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_c : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_0 : Ref sig .tc := ⟨.hbm, 74, rfl⟩
abbrev main_call1_v12 : Ref sig .tc := ⟨.hbm, 75, rfl⟩
abbrev main_call1_v13 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_c_1 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_c : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_0 : Ref sig .tc := ⟨.hbm, 102, rfl⟩
abbrev main_call2_v12 : Ref sig .tc := ⟨.hbm, 103, rfl⟩
abbrev main_call2_v13 : Ref sig .tc := ⟨.hbm, 104, rfl⟩
abbrev main_v35 : Ref sig .tc := ⟨.hbm, 105, rfl⟩
abbrev main_v36 : Ref sig .tc := ⟨.hbm, 106, rfl⟩
abbrev main_c_2 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_c : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_call3_c_0 : Ref sig .tc := ⟨.hbm, 121, rfl⟩
abbrev main_call3_v12 : Ref sig .tc := ⟨.hbm, 122, rfl⟩
abbrev main_call3_v13 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_c_3 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_v6 : Ref sig .tc := ⟨.hbm, 149, rfl⟩
abbrev main_call4_v7 : Ref sig .tc := ⟨.hbm, 150, rfl⟩
abbrev main_call4_v8 : Ref sig .tc := ⟨.hbm, 151, rfl⟩
abbrev main_call4_c : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_c_0 : Ref sig .tc := ⟨.hbm, 156, rfl⟩
abbrev main_call4_v12 : Ref sig .tc := ⟨.hbm, 157, rfl⟩
abbrev main_call4_v13 : Ref sig .tc := ⟨.hbm, 158, rfl⟩
abbrev main_v55 : Ref sig .tc := ⟨.hbm, 159, rfl⟩
abbrev main_v56 : Ref sig .tc := ⟨.hbm, 160, rfl⟩
abbrev main_c_4 : Ref sig .tc := ⟨.hbm, 161, rfl⟩
abbrev main_call5_v0 : Ref sig .tc := ⟨.hbm, 162, rfl⟩
abbrev main_call5_v1 : Ref sig .tc := ⟨.hbm, 163, rfl⟩
abbrev main_call5_v2 : Ref sig .tc := ⟨.hbm, 164, rfl⟩
abbrev main_call5_v3 : Ref sig .tc := ⟨.hbm, 165, rfl⟩
abbrev main_call5_v4 : Ref sig .tc := ⟨.hbm, 166, rfl⟩
abbrev main_call5_v5 : Ref sig .tc := ⟨.hbm, 167, rfl⟩
abbrev main_call5_v6 : Ref sig .tc := ⟨.hbm, 168, rfl⟩
abbrev main_call5_v7 : Ref sig .tc := ⟨.hbm, 169, rfl⟩
abbrev main_call5_v8 : Ref sig .tc := ⟨.hbm, 170, rfl⟩
abbrev main_call5_c : Ref sig .tc := ⟨.hbm, 171, rfl⟩
abbrev main_call5_v9 : Ref sig .tc := ⟨.hbm, 172, rfl⟩
abbrev main_call5_v10 : Ref sig .tc := ⟨.hbm, 173, rfl⟩
abbrev main_call5_v11 : Ref sig .tc := ⟨.hbm, 174, rfl⟩
abbrev main_call5_c_0 : Ref sig .tc := ⟨.hbm, 175, rfl⟩
abbrev main_call5_v12 : Ref sig .tc := ⟨.hbm, 176, rfl⟩
abbrev main_call5_v13 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_c_5 : Ref sig .tc := ⟨.hbm, 190, rfl⟩
abbrev main_call6_v0 : Ref sig .tc := ⟨.hbm, 191, rfl⟩
abbrev main_call6_v1 : Ref sig .tc := ⟨.hbm, 192, rfl⟩
abbrev main_call6_v2 : Ref sig .tc := ⟨.hbm, 193, rfl⟩
abbrev main_call6_v3 : Ref sig .tc := ⟨.hbm, 194, rfl⟩
abbrev main_call6_v4 : Ref sig .tc := ⟨.hbm, 195, rfl⟩
abbrev main_call6_v5 : Ref sig .tc := ⟨.hbm, 196, rfl⟩
abbrev main_call6_v6 : Ref sig .tc := ⟨.hbm, 197, rfl⟩
abbrev main_call6_v7 : Ref sig .tc := ⟨.hbm, 198, rfl⟩
abbrev main_call6_v8 : Ref sig .tc := ⟨.hbm, 199, rfl⟩
abbrev main_call6_c : Ref sig .tc := ⟨.hbm, 200, rfl⟩
abbrev main_call6_v9 : Ref sig .tc := ⟨.hbm, 201, rfl⟩
abbrev main_call6_v10 : Ref sig .tc := ⟨.hbm, 202, rfl⟩
abbrev main_call6_v11 : Ref sig .tc := ⟨.hbm, 203, rfl⟩
abbrev main_call6_c_0 : Ref sig .tc := ⟨.hbm, 204, rfl⟩
abbrev main_call6_v12 : Ref sig .tc := ⟨.hbm, 205, rfl⟩
abbrev main_call6_v13 : Ref sig .tc := ⟨.hbm, 206, rfl⟩
abbrev main_v69 : Ref sig .tc := ⟨.hbm, 207, rfl⟩
abbrev main_v70 : Ref sig .tc := ⟨.hbm, 208, rfl⟩
abbrev main_c_6 : Ref sig .tc := ⟨.hbm, 209, rfl⟩
abbrev main_call7_v0 : Ref sig .tc := ⟨.hbm, 210, rfl⟩
abbrev main_call7_v1 : Ref sig .tc := ⟨.hbm, 211, rfl⟩
abbrev main_call7_v2 : Ref sig .tc := ⟨.hbm, 212, rfl⟩
abbrev main_call7_v3 : Ref sig .tc := ⟨.hbm, 213, rfl⟩
abbrev main_call7_v4 : Ref sig .tc := ⟨.hbm, 214, rfl⟩
abbrev main_call7_v5 : Ref sig .tc := ⟨.hbm, 215, rfl⟩
abbrev main_call7_v6 : Ref sig .tc := ⟨.hbm, 216, rfl⟩
abbrev main_call7_v7 : Ref sig .tc := ⟨.hbm, 217, rfl⟩
abbrev main_call7_v8 : Ref sig .tc := ⟨.hbm, 218, rfl⟩
abbrev main_call7_c : Ref sig .tc := ⟨.hbm, 219, rfl⟩
abbrev main_call7_v9 : Ref sig .tc := ⟨.hbm, 220, rfl⟩
abbrev main_call7_v10 : Ref sig .tc := ⟨.hbm, 221, rfl⟩
abbrev main_call7_v11 : Ref sig .tc := ⟨.hbm, 222, rfl⟩
abbrev main_call7_c_0 : Ref sig .tc := ⟨.hbm, 223, rfl⟩
abbrev main_call7_v12 : Ref sig .tc := ⟨.hbm, 224, rfl⟩
abbrev main_call7_v13 : Ref sig .tc := ⟨.hbm, 225, rfl⟩
abbrev main_v71 : Ref sig .tc := ⟨.hbm, 226, rfl⟩
abbrev main_v72 : Ref sig .tc := ⟨.hbm, 227, rfl⟩
abbrev main_v73 : Ref sig .tc := ⟨.hbm, 228, rfl⟩
abbrev main_v74 : Ref sig .tc := ⟨.hbm, 229, rfl⟩
abbrev main_v75 : Ref sig .tc := ⟨.hbm, 230, rfl⟩
abbrev main_v76 : Ref sig .tc := ⟨.hbm, 231, rfl⟩
abbrev main_v77 : Ref sig .tc := ⟨.hbm, 232, rfl⟩
abbrev main_v78 : Ref sig .tc := ⟨.hbm, 233, rfl⟩
abbrev main_v79 : Ref sig .tc := ⟨.hbm, 234, rfl⟩
abbrev main_v80 : Ref sig .tc := ⟨.hbm, 235, rfl⟩
abbrev main_v81 : Ref sig .tc := ⟨.hbm, 236, rfl⟩
abbrev main_v82 : Ref sig .tc := ⟨.hbm, 237, rfl⟩
abbrev main_v83 : Ref sig .tc := ⟨.hbm, 238, rfl⟩
abbrev main_v84 : Ref sig .tc := ⟨.hbm, 239, rfl⟩
abbrev main_v85 : Ref sig .tc := ⟨.hbm, 240, rfl⟩
abbrev main_v86 : Ref sig .tc := ⟨.hbm, 241, rfl⟩
abbrev main_v87 : Ref sig .tc := ⟨.hbm, 242, rfl⟩
abbrev main_v88 : Ref sig .tc := ⟨.hbm, 243, rfl⟩
abbrev main_v89 : Ref sig .tc := ⟨.hbm, 244, rfl⟩
abbrev main_v90 : Ref sig .tc := ⟨.hbm, 245, rfl⟩
abbrev main_v91 : Ref sig .tc := ⟨.hbm, 246, rfl⟩
abbrev main_v92 : Ref sig .tc := ⟨.hbm, 247, rfl⟩
abbrev main_v93 : Ref sig .tc := ⟨.hbm, 248, rfl⟩
abbrev main_v94 : Ref sig .tc := ⟨.hbm, 249, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg20_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_scratch13 : Ref sig .tc := ⟨.vmem, 35, rfl⟩
abbrev cc0_scratch14 : Ref sig .tc := ⟨.vmem, 36, rfl⟩
abbrev cc0_scratch15 : Ref sig .tc := ⟨.vmem, 37, rfl⟩
abbrev cc0_scratch16 : Ref sig .tc := ⟨.vmem, 38, rfl⟩
abbrev cc0_scratch17 : Ref sig .tc := ⟨.vmem, 39, rfl⟩
abbrev cc0_scratch18 : Ref sig .tc := ⟨.vmem, 40, rfl⟩
abbrev cc0_scratch19 : Ref sig .tc := ⟨.vmem, 41, rfl⟩
abbrev cc0_scratch20 : Ref sig .tc := ⟨.vmem, 42, rfl⟩
abbrev cc0_scratch21 : Ref sig .tc := ⟨.vmem, 43, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c512_i32 : BitVec 32 := 512#32
  let c0_i32_1 : BitVec 32 := 0#32
  ![c0_i32.toNat, c0_i32_0.toNat, c512_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c1792_i32 : BitVec 32 := 1792#32
  let c0_i32_1 : BitVec 32 := 0#32
  ![c0_i32.toNat, c0_i32_0.toNat, c1792_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c768_i32 : BitVec 32 := 768#32
  let c0_i32_1 : BitVec 32 := 0#32
  ![c0_i32.toNat, c0_i32_0.toNat, c768_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c2304_i32 : BitVec 32 := 2304#32
  let c0_i32_1 : BitVec 32 := 0#32
  ![c0_i32.toNat, c0_i32_0.toNat, c2304_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c1280_i32 : BitVec 32 := 1280#32
  let c0_i32_1 : BitVec 32 := 0#32
  ![c0_i32.toNat, c0_i32_0.toNat, c1280_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c2816_i32 : BitVec 32 := 2816#32
  let c0_i32_1 : BitVec 32 := 0#32
  ![c0_i32.toNat, c0_i32_0.toNat, c2816_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3x8x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4x512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x4x512x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S8x64x1536 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== KernelIdeal.lean ====
variable {F : FTy → Type} [FloatOps F] [Named F]
def κ : String → Option EReal := fun
  | "log2e" => some (((Real.log 2)⁻¹ : ℝ) : EReal)
  | "log2e_1" => some (((1 / 2) * (Real.log 2)⁻¹ : ℝ) : EReal)
  | "log2e_2" => some (((1 / 4) * (Real.log 2)⁻¹ : ℝ) : EReal)
  | "log2e_3" => some (((1 / 8) * (Real.log 2)⁻¹ : ℝ) : EReal)
  | "log2e_4" => some (((1 / 16) * (Real.log 2)⁻¹ : ℝ) : EReal)
  | "log2e_5" => some (((1 / 32) * (Real.log 2)⁻¹ : ℝ) : EReal)
  | "log2e_6" => some (((1 / 64) * (Real.log 2)⁻¹ : ℝ) : EReal)
  | "log2e_7" => some (((1 / 128) * (Real.log 2)⁻¹ : ℝ) : EReal)
  | "log2e_8" => some (((1 / 256) * (Real.log 2)⁻¹ : ℝ) : EReal)
  | "mask" => some ⊥
  | _ => none
-- ==== ReferenceIdeal.lean ====
abbrev S8x4096x1024 : Shape := ⟨3, ![8, 4096, 1024]⟩
abbrev S2x8x3072 : Shape := ⟨3, ![2, 8, 3072]⟩
abbrev S2x1024 : Shape := ⟨2, ![2, 1024]⟩
abbrev S2x1024x6400 : Shape := ⟨3, ![2, 1024, 6400]⟩
abbrev S2x8 : Shape := ⟨2, ![2, 8]⟩
abbrev S2x32x64 : Shape := ⟨3, ![2, 32, 64]⟩
abbrev S2x32x64x16 : Shape := ⟨4, ![2, 32, 64, 16]⟩
abbrev S2x32x16x64 : Shape := ⟨4, ![2, 32, 16, 64]⟩
abbrev S2x512 : Shape := ⟨2, ![2, 512]⟩
abbrev S2x512x512 : Shape := ⟨3, ![2, 512, 512]⟩
abbrev S2x4x128x128 : Shape := ⟨4, ![2, 4, 128, 128]⟩
abbrev S1x8x3072 : Shape := ⟨3, ![1, 8, 3072]⟩
abbrev S8x3072 : Shape := ⟨2, ![8, 3072]⟩
abbrev S1x1024 : Shape := ⟨2, ![1, 1024]⟩
abbrev S1024 : Shape := ⟨1, ![1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S1x1024x6400 : Shape := ⟨3, ![1, 1024, 6400]⟩
abbrev S1024x6400 : Shape := ⟨2, ![1024, 6400]⟩
abbrev S8x4096x6400 : Shape := ⟨3, ![8, 4096, 6400]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S8x4096x2x64 : Shape := ⟨4, ![8, 4096, 2, 64]⟩
abbrev S1x8 : Shape := ⟨2, ![1, 8]⟩
abbrev S8 : Shape := ⟨1, ![8]⟩
abbrev S8x4224x2x64 : Shape := ⟨4, ![8, 4224, 2, 64]⟩
abbrev S8x66x64x2x64 : Shape := ⟨5, ![8, 66, 64, 2, 64]⟩
abbrev S8x64x64x2x64 : Shape := ⟨5, ![8, 64, 64, 2, 64]⟩
abbrev S8x64x192x2x64 : Shape := ⟨5, ![8, 64, 192, 2, 64]⟩
abbrev S8x64x64x2x4x64 : Shape := ⟨6, ![8, 64, 64, 2, 4, 64]⟩
abbrev S8x64x2x192x64x4 : Shape := ⟨6, ![8, 64, 2, 192, 64, 4]⟩
abbrev S8x64x2x4x64x192 : Shape := ⟨6, ![8, 64, 2, 4, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S2x4 : Shape := ⟨2, ![2, 4]⟩
abbrev S2x4x1x1 : Shape := ⟨4, ![2, 4, 1, 1]⟩
abbrev S1x1x64x192 : Shape := ⟨4, ![1, 1, 64, 192]⟩
abbrev S2x4x64x192 : Shape := ⟨4, ![2, 4, 64, 192]⟩
abbrev S1x1x2x4x64x192 : Shape := ⟨6, ![1, 1, 2, 4, 64, 192]⟩
abbrev S1x64x1x1x1x192 : Shape := ⟨6, ![1, 64, 1, 1, 1, 192]⟩
abbrev S1x1x2x4x1x1 : Shape := ⟨6, ![1, 1, 2, 4, 1, 1]⟩
abbrev S8x64x2x4x64x1 : Shape := ⟨6, ![8, 64, 2, 4, 64, 1]⟩
abbrev S8x64x2x4x64x193 : Shape := ⟨6, ![8, 64, 2, 4, 64, 193]⟩
abbrev S8x64x2x4x64 : Shape := ⟨5, ![8, 64, 2, 4, 64]⟩
abbrev S8x64x2x64x4x64 : Shape := ⟨6, ![8, 64, 2, 64, 4, 64]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S4096 : Shape := ⟨1, ![4096]⟩
abbrev S8x4097x128 : Shape := ⟨3, ![8, 4097, 128]⟩
abbrev S1x4096x1 : Shape := ⟨3, ![1, 4096, 1]⟩
abbrev S1x128x128 : Shape := ⟨3, ![1, 128, 128]⟩
abbrev S128x128 : Shape := ⟨2, ![128, 128]⟩
abbrev S8x4099x128 : Shape := ⟨3, ![8, 4099, 128]⟩
abbrev S8x4103x128 : Shape := ⟨3, ![8, 4103, 128]⟩
abbrev S8x4111x128 : Shape := ⟨3, ![8, 4111, 128]⟩
abbrev S1x1x512 : Shape := ⟨3, ![1, 1, 512]⟩
abbrev S8x4096x1536 : Shape := ⟨3, ![8, 4096, 1536]⟩

abbrev nBuf : Space → Nat
  | .hbm => 323
  | .vmem => 0
  | .smem => 0
  | _ => 0

abbrev hbmTy0_0 (i : Nat) : BufTy := match i % 128 with
  | 0 => ⟨S8x4096x1024, .f32⟩
  | 1 => ⟨S2x8x3072, .f32⟩
  | 2 => ⟨S2x1024, .f32⟩
  | 3 => ⟨S2x1024x6400, .f32⟩
  | 4 => ⟨S2x8, .f32⟩
  | 5 => ⟨S2x32x64, .f32⟩
  | 6 => ⟨S2x32x64, .f32⟩
  | 7 => ⟨S2x32x64, .f32⟩
  | 8 => ⟨S2x32x64, .f32⟩
  | 9 => ⟨S2x32x64x16, .f32⟩
  | 10 => ⟨S2x32x64x16, .f32⟩
  | 11 => ⟨S2x32x16x64, .f32⟩
  | 12 => ⟨S2x32x16x64, .f32⟩
  | 13 => ⟨S2x512, .f32⟩
  | 14 => ⟨S2x512x512, .f32⟩
  | 15 => ⟨S2x512, .f32⟩
  | 16 => ⟨S2x4x128x128, .f32⟩
  | 17 => ⟨S2x512, .f32⟩
  | 18 => ⟨S1x8x3072, .f32⟩
  | 19 => ⟨S8x3072, .f32⟩
  | 20 => ⟨S1x1024, .f32⟩
  | 21 => ⟨S1024, .f32⟩
  | 22 => ⟨S8x1024, .f32⟩
  | 23 => ⟨S8x1024, .f32⟩
  | 24 => ⟨S8x1024, .f32⟩
  | 25 => ⟨S8x4096x1024, .f32⟩
  | 26 => ⟨S_, .f32⟩
  | 27 => ⟨S8x4096, .f32⟩
  | 28 => ⟨S8x4096x1, .f32⟩
  | 29 => ⟨S_, .f32⟩
  | 30 => ⟨S8x4096x1, .f32⟩
  | 31 => ⟨S8x4096x1, .f32⟩
  | 32 => ⟨S_, .f32⟩
  | 33 => ⟨S8x4096x1, .f32⟩
  | 34 => ⟨S8x4096x1, .f32⟩
  | 35 => ⟨S8x4096x1, .f32⟩
  | 36 => ⟨S8x4096x1024, .f32⟩
  | 37 => ⟨S8x4096x1024, .f32⟩
  | 38 => ⟨S1x1x1024, .f32⟩
  | 39 => ⟨S8x4096x1024, .f32⟩
  | 40 => ⟨S8x4096x1024, .f32⟩
  | 41 => ⟨S8x1x1024, .f32⟩
  | 42 => ⟨S_, .f32⟩
  | 43 => ⟨S8x1x1024, .f32⟩
  | 44 => ⟨S8x1x1024, .f32⟩
  | 45 => ⟨S8x4096x1024, .f32⟩
  | 46 => ⟨S8x4096x1024, .f32⟩
  | 47 => ⟨S8x1x1024, .f32⟩
  | 48 => ⟨S8x4096x1024, .f32⟩
  | 49 => ⟨S8x4096x1024, .f32⟩
  | 50 => ⟨S1x1024x6400, .f32⟩
  | 51 => ⟨S1024x6400, .f32⟩
  | 52 => ⟨S8x4096x6400, .f32⟩
  | 53 => ⟨S8x4096x512, .f32⟩
  | 54 => ⟨S8x4096x128, .f32⟩
  | 55 => ⟨S8x4096x128, .f32⟩
  | 56 => ⟨S8x4096x512, .f32⟩
  | 57 => ⟨S8x4096x512, .f32⟩
  | 58 => ⟨S8x4096x512, .f32⟩
  | 59 => ⟨S8x4096x8x64, .f32⟩
  | 60 => ⟨S8x4096x2x64, .f32⟩
  | 61 => ⟨S8x4096x2x64, .f32⟩
  | 62 => ⟨S1x8, .f32⟩
  | 63 => ⟨S8, .f32⟩
  | 64 => ⟨S_, .i32⟩
  | 65 => ⟨S_, .f32⟩
  | 66 => ⟨S8x4224x2x64, .f32⟩
  | 67 => ⟨S8x66x64x2x64, .f32⟩
  | 68 => ⟨S_, .i32⟩
  | 69 => ⟨S_, .f32⟩
  | 70 => ⟨S8x4224x2x64, .f32⟩
  | 71 => ⟨S8x66x64x2x64, .f32⟩
  | 72 => ⟨S8x64x64x2x64, .f32⟩
  | 73 => ⟨S8x64x64x2x64, .f32⟩
  | 74 => ⟨S8x64x64x2x64, .f32⟩
  | 75 => ⟨S8x64x192x2x64, .f32⟩
  | 76 => ⟨S8x64x64x2x64, .f32⟩
  | 77 => ⟨S8x64x64x2x64, .f32⟩
  | 78 => ⟨S8x64x64x2x64, .f32⟩
  | 79 => ⟨S8x64x192x2x64, .f32⟩
  | 80 => ⟨S8x64x64x2x4x64, .f32⟩
  | 81 => ⟨S8x64x2x192x64x4, .f32⟩
  | 82 => ⟨S8x64x2x4x64x192, .f32⟩
  | 83 => ⟨S_, .f32⟩
  | 84 => ⟨S8x64x2x4x64x192, .f32⟩
  | 85 => ⟨S8x64x2x4x64x192, .f32⟩
  | 86 => ⟨S64, .i32⟩
  | 87 => ⟨S64x1, .i32⟩
  | 88 => ⟨S192, .i32⟩
  | 89 => ⟨S1x192, .i32⟩
  | 90 => ⟨S_, .i32⟩
  | 91 => ⟨S64x1, .i32⟩
  | 92 => ⟨S64x1, .i32⟩
  | 93 => ⟨S64x192, .i32⟩
  | 94 => ⟨S64x192, .i32⟩
  | 95 => ⟨S64x192, .i32⟩
  | 96 => ⟨S64x192, .i32⟩
  | 97 => ⟨S64x192, .f32⟩
  | 98 => ⟨S8, .i32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S2x4, .f32⟩
  | 113 => ⟨S2x4x1x1, .f32⟩
  | 114 => ⟨S1x1x64x192, .f32⟩
  | 115 => ⟨S2x4x64x192, .f32⟩
  | 116 => ⟨S2x4x64x192, .f32⟩
  | 117 => ⟨S2x4x64x192, .f32⟩
  | 118 => ⟨S1x1x2x4x64x192, .f32⟩
  | 119 => ⟨S8x64x2x4x64x192, .f32⟩
  | 120 => ⟨S8x64x2x4x64x192, .f32⟩
  | 121 => ⟨S64, .i32⟩
  | 122 => ⟨S64x1, .i32⟩
  | 123 => ⟨S_, .i32⟩
  | 124 => ⟨S64x1, .i32⟩
  | 125 => ⟨S64x1, .i32⟩
  | 126 => ⟨S192, .i32⟩
  | 127 => ⟨S1x192, .i32⟩
  | _ => ⟨S8x4096x1024, .f32⟩

abbrev hbmTy0_1 (i : Nat) : BufTy := match i % 128 with
  | 0 => ⟨S64x192, .i32⟩
  | 1 => ⟨S64x192, .i32⟩
  | 2 => ⟨S64x192, .i32⟩
  | 3 => ⟨S_, .i32⟩
  | 4 => ⟨S64x192, .i32⟩
  | 5 => ⟨S64x192, .i1⟩
  | 6 => ⟨S1x64x1x1x1x192, .i1⟩
  | 7 => ⟨S_, .f32⟩
  | 8 => ⟨S_, .f32⟩
  | 9 => ⟨S8x64x2x4x64x192, .i1⟩
  | 10 => ⟨S8x64x2x4x64x192, .f32⟩
  | 11 => ⟨S8x64x2x4x64x192, .f32⟩
  | 12 => ⟨S2x4, .f32⟩
  | 13 => ⟨S1x1x2x4x1x1, .f32⟩
  | 14 => ⟨S8x64x2x4x64x1, .f32⟩
  | 15 => ⟨S8x64x2x4x64x193, .f32⟩
  | 16 => ⟨S_, .f32⟩
  | 17 => ⟨S8x64x2x4x64, .f32⟩
  | 18 => ⟨S_, .f32⟩
  | 19 => ⟨S8x64x2x4x64, .f32⟩
  | 20 => ⟨S8x64x2x4x64, .f32⟩
  | 21 => ⟨S8x64x2x4x64x1, .f32⟩
  | 22 => ⟨S8x64x2x4x64x193, .f32⟩
  | 23 => ⟨S8x64x2x4x64x193, .f32⟩
  | 24 => ⟨S8x64x2x4x64x193, .f32⟩
  | 25 => ⟨S_, .f32⟩
  | 26 => ⟨S8x64x2x4x64, .f32⟩
  | 27 => ⟨S8x64x2x4x64x1, .f32⟩
  | 28 => ⟨S8x64x2x4x64x193, .f32⟩
  | 29 => ⟨S8x64x2x4x64x193, .f32⟩
  | 30 => ⟨S8x64x2x4x64x192, .f32⟩
  | 31 => ⟨S8x64x2x64x4x64, .f32⟩
  | 32 => ⟨S8x64x64x2x4x64, .f32⟩
  | 33 => ⟨S8x4096x512, .f32⟩
  | 34 => ⟨S8x4096x512, .f32⟩
  | 35 => ⟨S8x4096x512, .f32⟩
  | 36 => ⟨S_, .f32⟩
  | 37 => ⟨S8x4096x512, .f32⟩
  | 38 => ⟨S8x4096x512, .f32⟩
  | 39 => ⟨S_, .f32⟩
  | 40 => ⟨S8x4096x512, .f32⟩
  | 41 => ⟨S8x4096x512, .f32⟩
  | 42 => ⟨S8x4096x512, .f32⟩
  | 43 => ⟨S8x4096x512, .f32⟩
  | 44 => ⟨S1x4x128x128, .f32⟩
  | 45 => ⟨S4x128x128, .f32⟩
  | 46 => ⟨S1x512, .f32⟩
  | 47 => ⟨S512, .f32⟩
  | 48 => ⟨S4096, .i32⟩
  | 49 => ⟨S8x4096x128, .f32⟩
  | 50 => ⟨S_, .i32⟩
  | 51 => ⟨S_, .f32⟩
  | 52 => ⟨S8x4097x128, .f32⟩
  | 53 => ⟨S8x4096x128, .f32⟩
  | 54 => ⟨S8x4096x128, .f32⟩
  | 55 => ⟨S8x4096x128, .f32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S4096, .f32⟩
  | 63 => ⟨S1x4096x1, .f32⟩
  | 64 => ⟨S8x4096x128, .f32⟩
  | 65 => ⟨S8x4096x128, .f32⟩
  | 66 => ⟨S8x4096x128, .f32⟩
  | 67 => ⟨S1x128x128, .f32⟩
  | 68 => ⟨S128x128, .f32⟩
  | 69 => ⟨S8x4096x128, .f32⟩
  | 70 => ⟨S8x4096x128, .f32⟩
  | 71 => ⟨S_, .i32⟩
  | 72 => ⟨S_, .f32⟩
  | 73 => ⟨S8x4099x128, .f32⟩
  | 74 => ⟨S8x4096x128, .f32⟩
  | 75 => ⟨S8x4096x128, .f32⟩
  | 76 => ⟨S8x4096x128, .f32⟩
  | 77 => ⟨S8x4096x128, .f32⟩
  | 78 => ⟨S8x4096x128, .f32⟩
  | 79 => ⟨S8x4096x128, .f32⟩
  | 80 => ⟨S8x4096x128, .f32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S4096, .f32⟩
  | 88 => ⟨S1x4096x1, .f32⟩
  | 89 => ⟨S8x4096x128, .f32⟩
  | 90 => ⟨S8x4096x128, .f32⟩
  | 91 => ⟨S8x4096x128, .f32⟩
  | 92 => ⟨S1x128x128, .f32⟩
  | 93 => ⟨S128x128, .f32⟩
  | 94 => ⟨S8x4096x128, .f32⟩
  | 95 => ⟨S8x4096x128, .f32⟩
  | 96 => ⟨S_, .i32⟩
  | 97 => ⟨S_, .f32⟩
  | 98 => ⟨S8x4103x128, .f32⟩
  | 99 => ⟨S8x4096x128, .f32⟩
  | 100 => ⟨S8x4096x128, .f32⟩
  | 101 => ⟨S8x4096x128, .f32⟩
  | 102 => ⟨S8x4096x128, .f32⟩
  | 103 => ⟨S8x4096x128, .f32⟩
  | 104 => ⟨S8x4096x128, .f32⟩
  | 105 => ⟨S8x4096x128, .f32⟩
  | 106 => ⟨S8x4096x128, .f32⟩
  | 107 => ⟨S8x4096x128, .f32⟩
  | 108 => ⟨S8x4096x128, .f32⟩
  | 109 => ⟨S8x4096x128, .f32⟩
  | 110 => ⟨S8x4096x128, .f32⟩
  | 111 => ⟨S8x4096x128, .f32⟩
  | 112 => ⟨S8x4096x128, .f32⟩
  | 113 => ⟨S8x4096x128, .f32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S4096, .f32⟩
  | 121 => ⟨S1x4096x1, .f32⟩
  | 122 => ⟨S8x4096x128, .f32⟩
  | 123 => ⟨S8x4096x128, .f32⟩
  | 124 => ⟨S8x4096x128, .f32⟩
  | 125 => ⟨S1x128x128, .f32⟩
  | 126 => ⟨S128x128, .f32⟩
  | 127 => ⟨S8x4096x128, .f32⟩
  | _ => ⟨S8x4096x1024, .f32⟩

abbrev hbmTy0_2 (i : Nat) : BufTy := match i % 128 with
  | 0 => ⟨S8x4096x128, .f32⟩
  | 1 => ⟨S_, .i32⟩
  | 2 => ⟨S_, .f32⟩
  | 3 => ⟨S8x4111x128, .f32⟩
  | 4 => ⟨S8x4096x128, .f32⟩
  | 5 => ⟨S8x4096x128, .f32⟩
  | 6 => ⟨S8x4096x128, .f32⟩
  | 7 => ⟨S8x4096x128, .f32⟩
  | 8 => ⟨S8x4096x128, .f32⟩
  | 9 => ⟨S8x4096x128, .f32⟩
  | 10 => ⟨S8x4096x128, .f32⟩
  | 11 => ⟨S8x4096x128, .f32⟩
  | 12 => ⟨S8x4096x128, .f32⟩
  | 13 => ⟨S8x4096x128, .f32⟩
  | 14 => ⟨S8x4096x128, .f32⟩
  | 15 => ⟨S8x4096x128, .f32⟩
  | 16 => ⟨S8x4096x128, .f32⟩
  | 17 => ⟨S8x4096x128, .f32⟩
  | 18 => ⟨S8x4096x128, .f32⟩
  | 19 => ⟨S8x4096x128, .f32⟩
  | 20 => ⟨S8x4096x128, .f32⟩
  | 21 => ⟨S8x4096x128, .f32⟩
  | 22 => ⟨S8x4096x128, .f32⟩
  | 23 => ⟨S8x4096x128, .f32⟩
  | 24 => ⟨S8x4096x128, .f32⟩
  | 25 => ⟨S8x4096x128, .f32⟩
  | 26 => ⟨S8x4096x128, .f32⟩
  | 27 => ⟨S8x4096x128, .f32⟩
  | 28 => ⟨S8x4096x128, .f32⟩
  | 29 => ⟨S8x4096x128, .f32⟩
  | 30 => ⟨S8x4096x128, .f32⟩
  | 31 => ⟨S8x4096x128, .f32⟩
  | 32 => ⟨S8x4096x128, .f32⟩
  | 33 => ⟨S8x4096x128, .f32⟩
  | 34 => ⟨S8x4096x128, .f32⟩
  | 35 => ⟨S_, .i32⟩
  | 36 => ⟨S4096, .i32⟩
  | 37 => ⟨S4096, .i32⟩
  | 38 => ⟨S_, .i32⟩
  | 39 => ⟨S4096, .i32⟩
  | 40 => ⟨S4096, .i32⟩
  | 41 => ⟨S4096, .f32⟩
  | 42 => ⟨S1x4096x1, .f32⟩
  | 43 => ⟨S8x4096x128, .f32⟩
  | 44 => ⟨S8x4096x128, .f32⟩
  | 45 => ⟨S8x4096x128, .f32⟩
  | 46 => ⟨S1x128x128, .f32⟩
  | 47 => ⟨S128x128, .f32⟩
  | 48 => ⟨S8x4096x128, .f32⟩
  | 49 => ⟨S8x4096x512, .f32⟩
  | 50 => ⟨S1x1x512, .f32⟩
  | 51 => ⟨S8x4096x512, .f32⟩
  | 52 => ⟨S8x4096x512, .f32⟩
  | 53 => ⟨S8x4096x512, .f32⟩
  | 54 => ⟨S8x4096x512, .f32⟩
  | 55 => ⟨S_, .f32⟩
  | 56 => ⟨S8x4096x512, .f32⟩
  | 57 => ⟨S8x4096x512, .f32⟩
  | 58 => ⟨S_, .f32⟩
  | 59 => ⟨S8x4096x512, .f32⟩
  | 60 => ⟨S8x4096x512, .f32⟩
  | 61 => ⟨S8x4096x512, .f32⟩
  | 62 => ⟨S8x4096x512, .f32⟩
  | 63 => ⟨S_, .f32⟩
  | 64 => ⟨S8x4096x512, .f32⟩
  | 65 => ⟨S8x4096x1536, .f32⟩
  | 66 => ⟨S8x4096x1536, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c : Ref sig .tc := ⟨.hbm, 64, rfl⟩
abbrev main_call0_v0 : Ref sig .tc := ⟨.hbm, 65, rfl⟩
abbrev main_v42 : Ref sig .tc := ⟨.hbm, 66, rfl⟩
abbrev main_v43 : Ref sig .tc := ⟨.hbm, 67, rfl⟩
abbrev main_c_3 : Ref sig .tc := ⟨.hbm, 68, rfl⟩
abbrev main_call1_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_4 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_5 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_6 : Ref sig .tc := ⟨.hbm, 100, rfl⟩
abbrev main_v72 : Ref sig .tc := ⟨.hbm, 101, rfl⟩
abbrev main_v73 : Ref sig .tc := ⟨.hbm, 102, rfl⟩
abbrev main_cst_7 : Ref sig .tc := ⟨.hbm, 103, rfl⟩
abbrev main_v74 : Ref sig .tc := ⟨.hbm, 104, rfl⟩
abbrev main_v75 : Ref sig .tc := ⟨.hbm, 105, rfl⟩
abbrev main_cst_8 : Ref sig .tc := ⟨.hbm, 106, rfl⟩
abbrev main_v76 : Ref sig .tc := ⟨.hbm, 107, rfl⟩
abbrev main_v77 : Ref sig .tc := ⟨.hbm, 108, rfl⟩
abbrev main_cst_9 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_10 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_11 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_12 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_13 : Ref sig .tc := ⟨.hbm, 144, rfl⟩
abbrev main_v106 : Ref sig .tc := ⟨.hbm, 145, rfl⟩
abbrev main_cst_14 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_15 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_call3_v0 : Ref sig .tc := ⟨.hbm, 162, rfl⟩
abbrev main_call3_v1 : Ref sig .tc := ⟨.hbm, 163, rfl⟩
abbrev main_call3_cst : Ref sig .tc := ⟨.hbm, 164, rfl⟩
abbrev main_call3_v2 : Ref sig .tc := ⟨.hbm, 165, rfl⟩
abbrev main_call3_v3 : Ref sig .tc := ⟨.hbm, 166, rfl⟩
abbrev main_call3_cst_0 : Ref sig .tc := ⟨.hbm, 167, rfl⟩
abbrev main_call3_v4 : Ref sig .tc := ⟨.hbm, 168, rfl⟩
abbrev main_call3_v5 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_c_16 : Ref sig .tc := ⟨.hbm, 178, rfl⟩
abbrev main_call4_v0 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_c_17 : Ref sig .tc := ⟨.hbm, 184, rfl⟩
abbrev main_v133 : Ref sig .tc := ⟨.hbm, 185, rfl⟩
abbrev main_v134 : Ref sig .tc := ⟨.hbm, 186, rfl⟩
abbrev main_c_18 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_c_19 : Ref sig .tc := ⟨.hbm, 199, rfl⟩
abbrev main_call5_v0 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_c_20 : Ref sig .tc := ⟨.hbm, 209, rfl⟩
abbrev main_v154 : Ref sig .tc := ⟨.hbm, 210, rfl⟩
abbrev main_v155 : Ref sig .tc := ⟨.hbm, 211, rfl⟩
abbrev main_c_21 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_c_22 : Ref sig .tc := ⟨.hbm, 224, rfl⟩
abbrev main_call6_v0 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_c_23 : Ref sig .tc := ⟨.hbm, 242, rfl⟩
abbrev main_v183 : Ref sig .tc := ⟨.hbm, 243, rfl⟩
abbrev main_v184 : Ref sig .tc := ⟨.hbm, 244, rfl⟩
abbrev main_c_24 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_c_25 : Ref sig .tc := ⟨.hbm, 257, rfl⟩
abbrev main_call7_v0 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_c_26 : Ref sig .tc := ⟨.hbm, 291, rfl⟩
abbrev main_v228 : Ref sig .tc := ⟨.hbm, 292, rfl⟩
abbrev main_v229 : Ref sig .tc := ⟨.hbm, 293, rfl⟩
abbrev main_c_27 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_call8_v0 : Ref sig .tc := ⟨.hbm, 309, rfl⟩
abbrev main_call8_v1 : Ref sig .tc := ⟨.hbm, 310, rfl⟩
abbrev main_call8_cst : Ref sig .tc := ⟨.hbm, 311, rfl⟩
abbrev main_call8_v2 : Ref sig .tc := ⟨.hbm, 312, rfl⟩
abbrev main_call8_v3 : Ref sig .tc := ⟨.hbm, 313, rfl⟩
abbrev main_call8_cst_0 : Ref sig .tc := ⟨.hbm, 314, rfl⟩
abbrev main_call8_v4 : Ref sig .tc := ⟨.hbm, 315, rfl⟩
abbrev main_call8_v5 : Ref sig .tc := ⟨.hbm, 316, rfl⟩
abbrev main_v244 : Ref sig .tc := ⟨.hbm, 317, rfl⟩
abbrev main_v245 : Ref sig .tc := ⟨.hbm, 318, rfl⟩
abbrev main_cst_28 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩

abbrev nD : Nat := 1
abbrev τ : Topo := Topo.v7x

variable {F : FTy → Type} [FloatOps F]
-- ==== Merge.lean ====
abbrev S8x4096x1024 : Shape := ⟨3, ![8, 4096, 1024]⟩
abbrev S2x8x3072 : Shape := ⟨3, ![2, 8, 3072]⟩
abbrev S2x1024 : Shape := ⟨2, ![2, 1024]⟩
abbrev S2x1024x6400 : Shape := ⟨3, ![2, 1024, 6400]⟩
abbrev S8x4096x1536 : Shape := ⟨3, ![8, 4096, 1536]⟩
abbrev S2x512x1024 : Shape := ⟨3, ![2, 512, 1024]⟩
abbrev S2x1024x1024 : Shape := ⟨3, ![2, 1024, 1024]⟩
abbrev S1024 : Shape := ⟨1, ![1024]⟩
abbrev S1x1024 : Shape := ⟨2, ![1, 1024]⟩
abbrev S2x8x3x1024 : Shape := ⟨4, ![2, 8, 3, 1024]⟩
abbrev S2x3x8x1024 : Shape := ⟨4, ![2, 3, 8, 1024]⟩
abbrev S2x3x8x1x1024 : Shape := ⟨5, ![2, 3, 8, 1, 1024]⟩
abbrev S2x1x1024 : Shape := ⟨3, ![2, 1, 1024]⟩
abbrev S1x1024x1024 : Shape := ⟨3, ![1, 1024, 1024]⟩
abbrev S1x3x1x1x1024 : Shape := ⟨5, ![1, 3, 1, 1, 1024]⟩
abbrev S1x1x1024 : Shape := ⟨3, ![1, 1, 1024]⟩
abbrev S1x1024x1536 : Shape := ⟨3, ![1, 1024, 1536]⟩
abbrev S1x1024x3072 : Shape := ⟨3, ![1, 1024, 3072]⟩
abbrev S1x512x1024 : Shape := ⟨3, ![1, 512, 1024]⟩
abbrev S1024x3072 : Shape := ⟨2, ![1024, 3072]⟩
abbrev S512x1024 : Shape := ⟨2, ![512, 1024]⟩
abbrev S512 : Shape := ⟨1, ![512]⟩
abbrev S512x1 : Shape := ⟨2, ![512, 1]⟩
abbrev S1x1x1x1x1024 : Shape := ⟨5, ![1, 1, 1, 1, 1024]⟩
abbrev S1024x1024 : Shape := ⟨2, ![1024, 1024]⟩
abbrev S1x1024x512 : Shape := ⟨3, ![1, 1024, 512]⟩
abbrev S1x512x512 : Shape := ⟨3, ![1, 512, 512]⟩
abbrev S512x512 : Shape := ⟨2, ![512, 512]⟩

abbrev nBuf : Space → Nat
  | .hbm => 20
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S2x8x3072, .f32⟩
  | .hbm, ⟨2, _⟩ => ⟨S2x1024, .f32⟩
  | .hbm, ⟨3, _⟩ => ⟨S2x1024x6400, .f32⟩
  | .hbm, ⟨4, _⟩ => ⟨S8x4096x1536, .bf16⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S1024, .f32⟩
  | .hbm, ⟨10, _⟩ => ⟨S1x1024, .f32⟩
  | .hbm, ⟨11, _⟩ => ⟨S2x8x3x1024, .f32⟩
  | .hbm, ⟨12, _⟩ => ⟨S2x3x8x1024, .f32⟩
  | .hbm, ⟨13, _⟩ => ⟨S2x3x8x1x1024, .f32⟩
  | .hbm, ⟨14, _⟩ => ⟨S2x1x1024, .f32⟩
  | .hbm, ⟨15, _⟩ => ⟨S2x512x1024, .bf16⟩
  | .hbm, ⟨16, _⟩ => ⟨S2x512x1024, .bf16⟩
  | .hbm, ⟨17, _⟩ => ⟨S2x512x1024, .bf16⟩
  | .hbm, ⟨18, _⟩ => ⟨S2x1024x1024, .bf16⟩
  | .hbm, ⟨19, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1x1x1024, .f32⟩
  | .local _ .vmem, ⟨3, _⟩ => ⟨S1x3x1x1x1024, .f32⟩
  | .local _ .vmem, ⟨4, _⟩ => ⟨S1x1x1024, .f32⟩
  | .local _ .vmem, ⟨5, _⟩ => ⟨S1x1024x1536, .bf16⟩
  | .local _ .vmem, ⟨6, _⟩ => ⟨S1x1024x1536, .bf16⟩
  | .local _ .vmem, ⟨7, _⟩ => ⟨S1x1024x3072, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .bf16⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1024x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c3328_i32 : BitVec 32 := 3328#32
  let c0_i32_0 : BitVec 32 := 0#32
  ![c1_i32.toNat, c0_i32.toNat, c3328_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeReferenceIdeal.lean ====
abbrev S8x4096x1024 : Shape := ⟨3, ![8, 4096, 1024]⟩
abbrev S2x8x3072 : Shape := ⟨3, ![2, 8, 3072]⟩
abbrev S2x1024 : Shape := ⟨2, ![2, 1024]⟩
abbrev S2x1024x6400 : Shape := ⟨3, ![2, 1024, 6400]⟩
abbrev S8x4096x1536 : Shape := ⟨3, ![8, 4096, 1536]⟩
abbrev S2x512x1024 : Shape := ⟨3, ![2, 512, 1024]⟩
abbrev S2x1024x1024 : Shape := ⟨3, ![2, 1024, 1024]⟩
abbrev S1024 : Shape := ⟨1, ![1024]⟩
abbrev S1x8x3072 : Shape := ⟨3, ![1, 8, 3072]⟩
abbrev S8x3072 : Shape := ⟨2, ![8, 3072]⟩
abbrev S1x1024 : Shape := ⟨2, ![1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S1x1024x6400 : Shape := ⟨3, ![1, 1024, 6400]⟩
abbrev S1024x6400 : Shape := ⟨2, ![1024, 6400]⟩
abbrev S8x4096x6400 : Shape := ⟨3, ![8, 4096, 6400]⟩
abbrev S8x4096x3072 : Shape := ⟨3, ![8, 4096, 3072]⟩
abbrev S8x4096x512 : Shape := ⟨3, ![8, 4096, 512]⟩
abbrev S8x4096x3x1024 : Shape := ⟨4, ![8, 4096, 3, 1024]⟩
abbrev S8x4096x1x1024 : Shape := ⟨4, ![8, 4096, 1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x8x3072, .f32⟩
  | .hbm, ⟨2, _⟩ => ⟨S2x1024, .f32⟩
  | .hbm, ⟨3, _⟩ => ⟨S2x1024x6400, .f32⟩
  | .hbm, ⟨4, _⟩ => ⟨S8x4096x1536, .bf16⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S1024, .f32⟩
  | .hbm, ⟨10, _⟩ => ⟨S1x8x3072, .f32⟩
  | .hbm, ⟨11, _⟩ => ⟨S8x3072, .f32⟩
  | .hbm, ⟨12, _⟩ => ⟨S1x1024, .f32⟩
  | .hbm, ⟨13, _⟩ => ⟨S1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S8x1x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S1x1024x6400, .f32⟩
  | .hbm, ⟨43, _⟩ => ⟨S1024x6400, .f32⟩
  | .hbm, ⟨44, _⟩ => ⟨S8x4096x6400, .f32⟩
  | .hbm, ⟨45, _⟩ => ⟨S8x4096x3072, .f32⟩
  | .hbm, ⟨46, _⟩ => ⟨S8x4096x1536, .f32⟩
  | .hbm, ⟨47, _⟩ => ⟨S8x4096x512, .f32⟩
  | .hbm, ⟨48, _⟩ => ⟨S8x4096x512, .f32⟩
  | .hbm, ⟨49, _⟩ => ⟨S8x4096x512, .f32⟩
  | .hbm, ⟨50, _⟩ => ⟨S8x4096x3072, .f32⟩
  | .hbm, ⟨51, _⟩ => ⟨S8x4096x3072, .f32⟩
  | .hbm, ⟨52, _⟩ => ⟨S_, .f32⟩
  | .hbm, ⟨53, _⟩ => ⟨S8x4096x3072, .f32⟩
  | .hbm, ⟨54, _⟩ => ⟨S8x4096x3072, .f32⟩
  | .hbm, ⟨55, _⟩ => ⟨S_, .f32⟩
  | .hbm, ⟨56, _⟩ => ⟨S8x4096x3072, .f32⟩
  | .hbm, ⟨57, _⟩ => ⟨S8x4096x3072, .f32⟩
  | .hbm, ⟨58, _⟩ => ⟨S8x4096x3x1024, .f32⟩
  | .hbm, ⟨59, _⟩ => ⟨S8x4096x1x1024, .f32⟩
  | .hbm, ⟨60, _⟩ => ⟨S8x4096x1024, .f32⟩
  | .hbm, ⟨61, _⟩ => ⟨S1x512x1024, .f32⟩
  | .hbm, ⟨62, _⟩ => ⟨S512x1024, .f32⟩
  | .hbm, ⟨63, _⟩ => ⟨S8x4096x1024, .f32⟩
  | .hbm, ⟨64, _⟩ => ⟨S8x4096x1024, .f32⟩
  | .hbm, ⟨65, _⟩ => ⟨S8x4096x1x1024, .f32⟩
  | .hbm, ⟨66, _⟩ => ⟨S8x4096x1024, .f32⟩
  | .hbm, ⟨67, _⟩ => ⟨S1x512x1024, .f32⟩
  | .hbm, ⟨68, _⟩ => ⟨S512x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S8x4096x1x1024, .f32⟩
  | .hbm, ⟨73, _⟩ => ⟨S8x4096x1024, .f32⟩
  | .hbm, ⟨74, _⟩ => ⟨S1x512x1024, .f32⟩
  | .hbm, ⟨75, _⟩ => ⟨S512x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x1x1024, .f32⟩
  | .hbm, ⟨80, _⟩ => ⟨S1x1024x1024, .f32⟩
  | .hbm, ⟨81, _⟩ => ⟨S1024x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S_, .f32⟩
  | .hbm, ⟨94, _⟩ => ⟨S8x4096x1, .f32⟩
  | .hbm, ⟨95, _⟩ => ⟨S8x4096x1, .f32⟩
  | .hbm, ⟨96, _⟩ => ⟨S8x4096x1, .f32⟩
  | .hbm, ⟨97, _⟩ => ⟨S8x4096x1024, .f32⟩
  | .hbm, ⟨98, _⟩ => ⟨S8x4096x1024, .f32⟩
  | .hbm, ⟨99, _⟩ => ⟨S1x1x1024, .f32⟩
  | .hbm, ⟨100, _⟩ => ⟨S8x4096x1024, .f32⟩
  | .hbm, ⟨101, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_5 : Ref sig .tc := ⟨.hbm, 87, rfl⟩
abbrev main_v71 : Ref sig .tc := ⟨.hbm, 88, rfl⟩
abbrev main_v72 : Ref sig .tc := ⟨.hbm, 89, rfl⟩
abbrev main_cst_6 : Ref sig .tc := ⟨.hbm, 90, rfl⟩
abbrev main_v73 : Ref sig .tc := ⟨.hbm, 91, rfl⟩
abbrev main_v74 : Ref sig .tc := ⟨.hbm, 92, rfl⟩
abbrev main_cst_7 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== Modulation.lean ====
abbrev S8x1024 : Shape := ⟨2, ![8, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x8x3072 : Shape := ⟨3, ![2, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x3072, .f32⟩
  | .hbm, ⟨2, _⟩ => ⟨S2x3072, .f32⟩
  | .hbm, ⟨3, _⟩ => ⟨S2x1x3072, .f32⟩
  | .hbm, ⟨4, _⟩ => ⟨S2x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S8x1024 : Shape := ⟨2, ![8, 1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S8x3072 : Shape := ⟨2, ![8, 3072]⟩
abbrev S1x3072 : Shape := ⟨2, ![1, 3072]⟩
abbrev S3072 : Shape := ⟨1, ![3072]⟩
abbrev S1x8x3072 : Shape := ⟨3, ![1, 8, 3072]⟩
abbrev S2x8x3072 : Shape := ⟨3, ![2, 8, 3072]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x3072, .f32⟩
  | .hbm, ⟨2, _⟩ => ⟨S2x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x3072, .f32⟩
  | .hbm, ⟨13, _⟩ => ⟨S1024x3072, .f32⟩
  | .hbm, ⟨14, _⟩ => ⟨S8x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S8x3072, .f32⟩
  | .hbm, ⟨19, _⟩ => ⟨S8x3072, .f32⟩
  | .hbm, ⟨20, _⟩ => ⟨S1x1024x3072, .f32⟩
  | .hbm, ⟨21, _⟩ => ⟨S1024x3072, .f32⟩
  | .hbm, ⟨22, _⟩ => ⟨S8x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S8x3072, .f32⟩
  | .hbm, ⟨27, _⟩ => ⟨S8x3072, .f32⟩
  | .hbm, ⟨28, _⟩ => ⟨S1x8x3072, .f32⟩
  | .hbm, ⟨29, _⟩ => ⟨S1x8x3072, .f32⟩
  | .hbm, ⟨30, _⟩ => ⟨S2x8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Discretise.lean ====
abbrev S2x32x64 : Shape := ⟨3, ![2, 32, 64]⟩
abbrev S2x32 : Shape := ⟨2, ![2, 32]⟩
abbrev S2x32x1 : Shape := ⟨3, ![2, 32, 1]⟩
abbrev S1x32x64 : Shape := ⟨3, ![1, 32, 64]⟩
abbrev S1x32x1 : Shape := ⟨3, ![1, 32, 1]⟩
abbrev S32x64 : Shape := ⟨2, ![32, 64]⟩
abbrev S32x1 : Shape := ⟨2, ![32, 1]⟩

abbrev nBuf : Space → Nat
  | .hbm => 8
  | .vmem => 14
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x1, .f32⟩
  | .hbm, ⟨4, _⟩ => ⟨S2x32x64, .f32⟩
  | .hbm, ⟨5, _⟩ => ⟨S2x32x64, .f32⟩
  | .hbm, ⟨6, _⟩ => ⟨S2x32x64, .f32⟩
  | .hbm, ⟨7, _⟩ => ⟨S2x32x64, .f32⟩
  | .local _ .vmem, ⟨0, _⟩ => ⟨S1x32x64, .f32⟩
  | .local _ .vmem, ⟨1, _⟩ => ⟨S1x32x64, .f32⟩
  | .local _ .vmem, ⟨2, _⟩ => ⟨S1x32x64, .f32⟩
  | .local _ .vmem, ⟨3, _⟩ => ⟨S1x32x64, .f32⟩
  | .local _ .vmem, ⟨4, _⟩ => ⟨S1x32x1, .f32⟩
  | .local _ .vmem, ⟨5, _⟩ => ⟨S1x32x1, .f32⟩
  | .local _ .vmem, ⟨6, _⟩ => ⟨S1x32x64, .f32⟩
  | .local _ .vmem, ⟨7, _⟩ => ⟨S1x32x64, .f32⟩
  | .local _ .vmem, ⟨8, _⟩ => ⟨S1x32x64, .f32⟩
  | .local _ .vmem, ⟨9, _⟩ => ⟨S1x32x64, .f32⟩
  | .local _ .vmem, ⟨10, _⟩ => ⟨S1x32x64, .f32⟩
  | .local _ .vmem, ⟨11, _⟩ => ⟨S1x32x64, .f32⟩
  | .local _ .vmem, ⟨12, _⟩ => ⟨S1x32x64, .f32⟩
  | .local _ .vmem, ⟨13, _⟩ => ⟨S1x32x64, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DiscretiseReferenceIdeal.lean ====
abbrev S2x32x64 : Shape := ⟨3, ![2, 32, 64]⟩
abbrev S2x32 : Shape := ⟨2, ![2, 32]⟩
abbrev S2x32x1 : Shape := ⟨3, ![2, 32, 1]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32, .f32⟩
  | .hbm, ⟨4, _⟩ => ⟨S2x32x1, .f32⟩
  | .hbm, ⟨5, _⟩ => ⟨S2x32x64, .f32⟩
  | .hbm, ⟨6, _⟩ => ⟨S2x32x64, .f32⟩
  | .hbm, ⟨7, _⟩ => ⟨S2x32x64, .f32⟩
  | .hbm, ⟨8, _⟩ => ⟨S2x32x64, .f32⟩
  | .hbm, ⟨9, _⟩ => ⟨S2x32x64, .f32⟩
  | .hbm, ⟨10, _⟩ => ⟨S2x32x64, .f32⟩
  | .hbm, ⟨11, _⟩ => ⟨S2x32x64, .f32⟩
  | .hbm, ⟨12, _⟩ => ⟨S2x32x64, .f32⟩
  | .hbm, ⟨13, _⟩ => ⟨S2x32x64, .f32⟩
  | .hbm, ⟨14, _⟩ => ⟨S2x32x64, .f32⟩
  | .hbm, ⟨15, _⟩ => ⟨S2x32x64, .f32⟩
  | .hbm, ⟨16, _⟩ => ⟨S2x32x64, .f32⟩
  | .hbm, ⟨17, _⟩ => ⟨S2x32x64, .f32⟩
  | .hbm, ⟨18, _⟩ => ⟨S2x32x64, .f32⟩
  | .hbm, ⟨19, _⟩ => ⟨S2x32x64, .f32⟩
  | .hbm, ⟨20, _⟩ => ⟨S2x32x64, .f32⟩
  | .hbm, ⟨21, _⟩ => ⟨S2x32x64, .f32⟩
  | .hbm, ⟨22, _⟩ => ⟨S_, .f32⟩
  | .hbm, ⟨23, _⟩ => ⟨S2x32x64, .f32⟩
  | .hbm, ⟨24, _⟩ => ⟨S2x32x64, .f32⟩
  | .hbm, ⟨25, _⟩ => ⟨S2x32x64, .f32⟩
  | .hbm, ⟨26, _⟩ => ⟨S2x32x64, .f32⟩
  | .hbm, ⟨27, _⟩ => ⟨S2x32x64, .f32⟩
  | .hbm, ⟨28, _⟩ => ⟨S2x32x64, .f32⟩
  | .hbm, ⟨29, _⟩ => ⟨S2x32x64, .f32⟩
  | .hbm, ⟨30, _⟩ => ⟨S_, .f32⟩
  | .hbm, ⟨31, _⟩ => ⟨S2x32x64, .f32⟩
  | .hbm, ⟨32, _⟩ => ⟨S2x32x64, .f32⟩
  | .hbm, ⟨33, _⟩ => ⟨S2x32x64, .f32⟩
  | .hbm, ⟨34, _⟩ => ⟨S2x32x64, .f32⟩
  | .hbm, ⟨35, _⟩ => ⟨S2x32x64, .f32⟩
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== FirstMerge.lean ====
abbrev S8x4096x1024 : Shape := ⟨3, ![8, 4096, 1024]⟩
abbrev S2x8x3072 : Shape := ⟨3, ![2, 8, 3072]⟩
abbrev S2x1024 : Shape := ⟨2, ![2, 1024]⟩
abbrev S2x1024x6400 : Shape := ⟨3, ![2, 1024, 6400]⟩
abbrev S8x4096x1536 : Shape := ⟨3, ![8, 4096, 1536]⟩
abbrev S2x512x1024 : Shape := ⟨3, ![2, 512, 1024]⟩
abbrev S2x1024x1024 : Shape := ⟨3, ![2, 1024, 1024]⟩
abbrev S1024 : Shape := ⟨1, ![1024]⟩
abbrev S1x1024 : Shape := ⟨2, ![1, 1024]⟩
abbrev S2x8x3x1024 : Shape := ⟨4, ![2, 8, 3, 1024]⟩
abbrev S2x3x8x1024 : Shape := ⟨4, ![2, 3, 8, 1024]⟩
abbrev S2x3x8x1x1024 : Shape := ⟨5, ![2, 3, 8, 1, 1024]⟩
abbrev S2x1x1024 : Shape := ⟨3, ![2, 1, 1024]⟩
abbrev S1x1024x1024 : Shape := ⟨3, ![1, 1024, 1024]⟩
abbrev S1x3x1x1x1024 : Shape := ⟨5, ![1, 3, 1, 1, 1024]⟩
abbrev S1x1x1024 : Shape := ⟨3, ![1, 1, 1024]⟩
abbrev S1x1024x1536 : Shape := ⟨3, ![1, 1024, 1536]⟩
abbrev S1x1024x3072 : Shape := ⟨3, ![1, 1024, 3072]⟩
abbrev S1x512x1024 : Shape := ⟨3, ![1, 512, 1024]⟩
abbrev S1024x3072 : Shape := ⟨2, ![1024, 3072]⟩
abbrev S512x1024 : Shape := ⟨2, ![512, 1024]⟩
abbrev S512 : Shape := ⟨1, ![512]⟩
abbrev S512x1 : Shape := ⟨2, ![512, 1]⟩
abbrev S1x1x1x1x1024 : Shape := ⟨5, ![1, 1, 1, 1, 1024]⟩
abbrev S1024x1024 : Shape := ⟨2, ![1024, 1024]⟩
abbrev S1x1024x512 : Shape := ⟨3, ![1, 1024, 512]⟩
abbrev S1x512x512 : Shape := ⟨3, ![1, 512, 512]⟩
abbrev S512x512 : Shape := ⟨2, ![512, 512]⟩

abbrev nBuf : Space → Nat
  | .hbm => 20
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S2x8x3072, .f32⟩
  | .hbm, ⟨2, _⟩ => ⟨S2x1024, .f32⟩
  | .hbm, ⟨3, _⟩ => ⟨S2x1024x6400, .f32⟩
  | .hbm, ⟨4, _⟩ => ⟨S8x4096x1536, .bf16⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S1024, .f32⟩
  | .hbm, ⟨10, _⟩ => ⟨S1x1024, .f32⟩
  | .hbm, ⟨11, _⟩ => ⟨S2x8x3x1024, .f32⟩
  | .hbm, ⟨12, _⟩ => ⟨S2x3x8x1024, .f32⟩
  | .hbm, ⟨13, _⟩ => ⟨S2x3x8x1x1024, .f32⟩
  | .hbm, ⟨14, _⟩ => ⟨S2x1x1024, .f32⟩
  | .hbm, ⟨15, _⟩ => ⟨S2x512x1024, .bf16⟩
  | .hbm, ⟨16, _⟩ => ⟨S2x512x1024, .bf16⟩
  | .hbm, ⟨17, _⟩ => ⟨S2x512x1024, .bf16⟩
  | .hbm, ⟨18, _⟩ => ⟨S2x1024x1024, .bf16⟩
  | .hbm, ⟨19, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1x1x1024, .f32⟩
  | .local _ .vmem, ⟨3, _⟩ => ⟨S1x3x1x1x1024, .f32⟩
  | .local _ .vmem, ⟨4, _⟩ => ⟨S1x1x1024, .f32⟩
  | .local _ .vmem, ⟨5, _⟩ => ⟨S1x1024x1536, .bf16⟩
  | .local _ .vmem, ⟨6, _⟩ => ⟨S1x1024x1536, .bf16⟩
  | .local _ .vmem, ⟨7, _⟩ => ⟨S1x1024x3072, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .bf16⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1024x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3328_i32 : BitVec 32 := 3328#32
  let c0_i32_1 : BitVec 32 := 0#32
  ![c0_i32.toNat, c0_i32_0.toNat, c3328_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FirstMergeReferenceIdeal.lean ====
abbrev S8x4096x1024 : Shape := ⟨3, ![8, 4096, 1024]⟩
abbrev S2x8x3072 : Shape := ⟨3, ![2, 8, 3072]⟩
abbrev S2x1024 : Shape := ⟨2, ![2, 1024]⟩
abbrev S2x1024x6400 : Shape := ⟨3, ![2, 1024, 6400]⟩
abbrev S8x4096x1536 : Shape := ⟨3, ![8, 4096, 1536]⟩
abbrev S2x512x1024 : Shape := ⟨3, ![2, 512, 1024]⟩
abbrev S2x1024x1024 : Shape := ⟨3, ![2, 1024, 1024]⟩
abbrev S1024 : Shape := ⟨1, ![1024]⟩
abbrev S1x8x3072 : Shape := ⟨3, ![1, 8, 3072]⟩
abbrev S8x3072 : Shape := ⟨2, ![8, 3072]⟩
abbrev S1x1024 : Shape := ⟨2, ![1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S1x1024x6400 : Shape := ⟨3, ![1, 1024, 6400]⟩
abbrev S1024x6400 : Shape := ⟨2, ![1024, 6400]⟩
abbrev S8x4096x6400 : Shape := ⟨3, ![8, 4096, 6400]⟩
abbrev S8x4096x3072 : Shape := ⟨3, ![8, 4096, 3072]⟩
abbrev S8x4096x512 : Shape := ⟨3, ![8, 4096, 512]⟩
abbrev S8x4096x3x1024 : Shape := ⟨4, ![8, 4096, 3, 1024]⟩
abbrev S8x4096x1x1024 : Shape := ⟨4, ![8, 4096, 1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x8x3072, .f32⟩
  | .hbm, ⟨2, _⟩ => ⟨S2x1024, .f32⟩
  | .hbm, ⟨3, _⟩ => ⟨S2x1024x6400, .f32⟩
  | .hbm, ⟨4, _⟩ => ⟨S8x4096x1536, .bf16⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S1024, .f32⟩
  | .hbm, ⟨10, _⟩ => ⟨S1x8x3072, .f32⟩
  | .hbm, ⟨11, _⟩ => ⟨S8x3072, .f32⟩
  | .hbm, ⟨12, _⟩ => ⟨S1x1024, .f32⟩
  | .hbm, ⟨13, _⟩ => ⟨S1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S8x1x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S1x1024x6400, .f32⟩
  | .hbm, ⟨43, _⟩ => ⟨S1024x6400, .f32⟩
  | .hbm, ⟨44, _⟩ => ⟨S8x4096x6400, .f32⟩
  | .hbm, ⟨45, _⟩ => ⟨S8x4096x3072, .f32⟩
  | .hbm, ⟨46, _⟩ => ⟨S8x4096x1536, .f32⟩
  | .hbm, ⟨47, _⟩ => ⟨S8x4096x512, .f32⟩
  | .hbm, ⟨48, _⟩ => ⟨S8x4096x512, .f32⟩
  | .hbm, ⟨49, _⟩ => ⟨S8x4096x512, .f32⟩
  | .hbm, ⟨50, _⟩ => ⟨S8x4096x3072, .f32⟩
  | .hbm, ⟨51, _⟩ => ⟨S8x4096x3072, .f32⟩
  | .hbm, ⟨52, _⟩ => ⟨S_, .f32⟩
  | .hbm, ⟨53, _⟩ => ⟨S8x4096x3072, .f32⟩
  | .hbm, ⟨54, _⟩ => ⟨S8x4096x3072, .f32⟩
  | .hbm, ⟨55, _⟩ => ⟨S_, .f32⟩
  | .hbm, ⟨56, _⟩ => ⟨S8x4096x3072, .f32⟩
  | .hbm, ⟨57, _⟩ => ⟨S8x4096x3072, .f32⟩
  | .hbm, ⟨58, _⟩ => ⟨S8x4096x3x1024, .f32⟩
  | .hbm, ⟨59, _⟩ => ⟨S8x4096x1x1024, .f32⟩
  | .hbm, ⟨60, _⟩ => ⟨S8x4096x1024, .f32⟩
  | .hbm, ⟨61, _⟩ => ⟨S1x512x1024, .f32⟩
  | .hbm, ⟨62, _⟩ => ⟨S512x1024, .f32⟩
  | .hbm, ⟨63, _⟩ => ⟨S8x4096x1024, .f32⟩
  | .hbm, ⟨64, _⟩ => ⟨S8x4096x1024, .f32⟩
  | .hbm, ⟨65, _⟩ => ⟨S8x4096x1x1024, .f32⟩
  | .hbm, ⟨66, _⟩ => ⟨S8x4096x1024, .f32⟩
  | .hbm, ⟨67, _⟩ => ⟨S1x512x1024, .f32⟩
  | .hbm, ⟨68, _⟩ => ⟨S512x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S8x4096x1x1024, .f32⟩
  | .hbm, ⟨73, _⟩ => ⟨S8x4096x1024, .f32⟩
  | .hbm, ⟨74, _⟩ => ⟨S1x512x1024, .f32⟩
  | .hbm, ⟨75, _⟩ => ⟨S512x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x1x1024, .f32⟩
  | .hbm, ⟨80, _⟩ => ⟨S1x1024x1024, .f32⟩
  | .hbm, ⟨81, _⟩ => ⟨S1024x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Proof.MixClaims.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent
public import Idealize.ShloMosaic.Lib.Claim

/-! The frames of the mixers call and of its reference, and the constants that its idealized form names. -/

@[expose] public section

noncomputable section

open Idealize.ShloMosaic Idealize.ShloMosaic.TcCoe Idealize.SL.Sem

namespace Cert.Proof.MixClaims

/-- The mixers kernel runs and leaves its arguments as they were. -/
theorem frame_p : Cert.quiescent_Kernel := fun m ρ _ => Cert.Kernel.Gen.frame m ρ

/-- So does its idealized form. -/
theorem frame_pi : Cert.quiescent_KernelIdeal := fun m ρ _ => Cert.KernelIdeal.Gen.frame m ρ

/-- So does the idealized reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Each constant that the idealized kernel names has the value that it is named for: the multiples of 1/log 2 that the
    kernel rounds, and −∞ for the score of a masked position. -/
theorem preserves : Cert.preserves_Kernel_KernelIdeal :=
  ⟨IdealRules.named_const.statement Cert.KernelIdeal.κ "log2e_3" .f32 0x3E38AA3B#32 _ rfl,
   IdealRules.named_const.statement Cert.KernelIdeal.κ "log2e_1" .f32 0x3F38AA3B#32 _ rfl,
   IdealRules.named_const.statement Cert.KernelIdeal.κ "mask" .f32 0xF149F2CA#32 _ rfl,
   IdealRules.named_const.statement Cert.KernelIdeal.κ "log2e" .f32 0x3FB8AA3B#32 _ rfl,
   IdealRules.named_const.statement Cert.KernelIdeal.κ "log2e_2" .f32 0x3EB8AA3B#32 _ rfl,
   IdealRules.named_const.statement Cert.KernelIdeal.κ "log2e_4" .f32 0x3DB8AA3B#32 _ rfl,
   IdealRules.named_const.statement Cert.KernelIdeal.κ "log2e_5" .f32 0x3D38AA3B#32 _ rfl,
   IdealRules.named_const.statement Cert.KernelIdeal.κ "log2e_7" .f32 0x3C38AA3B#32 _ rfl,
   IdealRules.named_const.statement Cert.KernelIdeal.κ "log2e_6" .f32 0x3CB8AA3B#32 _ rfl,
   IdealRules.named_const.statement Cert.KernelIdeal.κ "log2e_8" .f32 0x3BB8AA3B#32 _ rfl⟩

end Cert.Proof.MixClaims
-- ==== Proof.MergeRow.lean ====
module

public import proofs.«01_k».proof.Proof.Gen.MergeIdeal.Value
public import Idealize.ShloMosaic.Lib.Pipeline.ValueKit
public import Idealize.ShloMosaic.Lib.Claim

/-!
The merge of the three branches, one token at a time: what a row of the result is in terms of the row of the residual
stream, the row of the branches' outputs and the weights. Both the kernel's payloads and the reference are read as these
functions.
-/

@[expose] public section

set_option maxRecDepth 16384

noncomputable section

open Idealize.ShloMosaic Idealize.ShloMosaic.TcCoe Idealize.SL.Sem

namespace Cert.MergeRow

open Cert.MergeIdeal Cert.MergeIdeal.Gen

/-- The reciprocal root mean square of a row. -/
def rms (f : Fin 1024 → EReal) : EReal :=
  Ideal.rsqrt (Ideal.div (∑ k, f k * f k) (Ideal.ofBits FTy.f32 0x44800000#32) + Ideal.ofBits FTy.f32 0x358637BD#32)

/-- The normed and modulated row. -/
def hRow (x g s t : Fin 1024 → EReal) (k : Fin 1024) : EReal := x k * rms x * (g k * (1 + s k)) + t k

/-- The logistic function as the kernel writes it, through the hyperbolic tangent. -/
def gate (z : EReal) : EReal :=
  Ideal.ofBits FTy.f32 0x3F000000#32 * Ideal.tanh (Ideal.ofBits FTy.f32 0x3F000000#32 * z)
    + Ideal.ofBits FTy.f32 0x3F000000#32

/-- One branch: the gate of the row against the gate's weights, times the branch's output against its weights. -/
def branch (h : Fin 1024 → EReal) (w : Fin 1024 → Fin 1024 → EReal) (y : Fin 512 → EReal)
    (a : Fin 512 → Fin 1024 → EReal) (d : Fin 1024) : EReal :=
  gate (∑ k, h k * w k d) * ∑ k, y k * a k d

/-- The residual row with the gated, merged branches added. -/
def xRow (x gt : Fin 1024 → EReal) (mg : Fin 1024 → EReal) (o : Fin 1024 → Fin 1024 → EReal) (d : Fin 1024) : EReal :=
  x d + gt d * ∑ k, mg k * o k d

/-- The last norm. -/
def outRow (x fg : Fin 1024 → EReal) (d : Fin 1024) : EReal := x d * rms x * fg d

/-- The first half's normed rows. -/
theorem pay4_row (X : Vec Ideal S1x512x1024 .f32) (G : Vec Ideal S1x1x1024 .f32) (S T : Vec Ideal S1x1x1x1x1024 .f32)
    (i : S512x1024.Idx) :
    k0_pay4 (F := Ideal) X G S T i
      = hRow (fun k => X (ix3 0 (i 0) k)) (fun k => G (ix3 0 0 k)) (fun k => S (ix5 0 0 0 0 k))
          (fun k => T (ix5 0 0 0 0 k)) (i 1) := by
  pointwise [k0_pay4, k0_pay3]
  rfl

/-- The first half's residual rows. -/
theorem pay8_row (X : Vec Ideal S1x512x1024 .f32) (H : FVec Ideal S512x1024 .bf16)
    (W0 W1 W2 : Vec Ideal S1024x1024 .bf16) (Y0 Y1 Y2 : Vec Ideal S1x512x512 .bf16)
    (A B C : Vec Ideal S1x512x1024 .bf16) (O : Vec Ideal S1x1024x1024 .bf16) (gt : Vec Ideal S1x1x1x1x1024 .f32)
    (i : S512x1024.Idx) :
    k0_pay8 (F := Ideal) (k0_pay3 X) H (k0_pay5 H W0 Y0 A) (k0_pay6 Y1 B) (k0_pay7 H W1) W2 Y2 C O gt i
      = xRow (fun k => X (ix3 0 (i 0) k)) (fun k => gt (ix5 0 0 0 0 k))
          (fun d =>
            branch (fun k => H (ix2 (i 0) k)) (fun k d => W0 (ix2 k d)) (fun k => Y0 (ix3 0 (i 0) k))
                (fun k d => A (ix3 0 k d)) d
              + branch (fun k => H (ix2 (i 0) k)) (fun k d => W1 (ix2 k d)) (fun k => Y1 (ix3 0 (i 0) k))
                (fun k d => B (ix3 0 k d)) d
              + branch (fun k => H (ix2 (i 0) k)) (fun k d => W2 (ix2 k d)) (fun k => Y2 (ix3 0 (i 0) k))
                (fun k d => C (ix3 0 k d)) d)
          (fun k d => O (ix3 0 k d)) (i 1) := by
  pointwise [k0_pay8, k0_pay3, k0_pay5, k0_pay6, k0_pay7]
  rfl

/-- The first half's result, from its residual rows. -/
theorem pay10_row (v6 v30 v46 v54 v61 v64 v67 v69 v77 v84) (FG : Vec Ideal S1x1024 .f32) (i : S1x512x1024.Idx) :
    k0_pay10 (F := Ideal) (k0_pay8 v6 v30 v46 v54 v61 v64 v67 v69 v77 v84)
        (k0_pay9 v6 v30 v46 v54 v61 v64 v67 v69 v77 v84) FG i
      = outRow (fun k => k0_pay8 (F := Ideal) v6 v30 v46 v54 v61 v64 v67 v69 v77 v84 (ix2 (i 1) k))
          (fun k => FG (ix2 0 k)) (i 2) := by
  pointwise [k0_pay10, k0_pay9]
  rfl

/-- The second half's normed rows. -/
theorem pay13_row (X : Vec Ideal S1x512x1024 .f32) (G : Vec Ideal S1x1x1024 .f32) (S T : Vec Ideal S1x1x1x1x1024 .f32)
    (i : S512x1024.Idx) :
    k0_pay13 (F := Ideal) (k0_pay12 X G S) T i
      = hRow (fun k => X (ix3 0 (i 0) k)) (fun k => G (ix3 0 0 k)) (fun k => S (ix5 0 0 0 0 k))
          (fun k => T (ix5 0 0 0 0 k)) (i 1) := by
  pointwise [k0_pay13, k0_pay12, k0_pay11]
  rfl

/-- The second half's residual rows. -/
theorem pay18_row (X : Vec Ideal S1x512x1024 .f32) (H : FVec Ideal S512x1024 .f32) (T : Vec Ideal S1x1x1x1x1024 .f32)
    (W0 W1 W2 : Vec Ideal S1024x1024 .bf16) (Y0 Y1 Y2 : Vec Ideal S1x512x512 .bf16)
    (A B C : Vec Ideal S1x512x1024 .bf16) (O : Vec Ideal S1x1024x1024 .bf16) (gt : Vec Ideal S1x1x1x1x1024 .f32)
    (i : S512x1024.Idx) :
    addf (k0_pay11 X) (k0_pay18 (F := Ideal) (k0_pay13 H T) (k0_pay14 H T W0 Y0 A) (k0_pay15 H T W1) (k0_pay16 Y1 B)
        k0_pay17 W2 Y2 C O gt) i
      = xRow (fun k => X (ix3 0 (i 0) k)) (fun k => gt (ix5 0 0 0 0 k))
          (fun d =>
            branch (fun k => k0_pay13 H T (ix2 (i 0) k)) (fun k d => W0 (ix2 k d)) (fun k => Y0 (ix3 0 (i 0) k))
                (fun k d => A (ix3 0 k d)) d
              + branch (fun k => k0_pay13 H T (ix2 (i 0) k)) (fun k d => W1 (ix2 k d)) (fun k => Y1 (ix3 0 (i 0) k))
                (fun k d => B (ix3 0 k d)) d
              + branch (fun k => k0_pay13 H T (ix2 (i 0) k)) (fun k d => W2 (ix2 k d)) (fun k => Y2 (ix3 0 (i 0) k))
                (fun k d => C (ix3 0 k d)) d)
          (fun k d => O (ix3 0 k d)) (i 1) := by
  pointwise [k0_pay18, k0_pay14, k0_pay15, k0_pay16, k0_pay17, k0_pay11]
  rfl

/-- The second half's result, from its residual rows. -/
theorem pay1_row (x o : FVec Ideal S512x1024 .f32) (FG : Vec Ideal S1x1024 .f32) (i : S1x512x1024.Idx) :
    k0_pay1 (F := Ideal) x o FG i
      = outRow (fun k => addf x o (ix2 (i 1) k)) (fun k => FG (ix2 0 k)) (i 2) := by
  pointwise [k0_pay1]
  rfl

end Cert.MergeRow
-- ==== Proof.MergeBlocks.lean ====
module

public import proofs.«01_k».proof.Proof.MergeRow
public import Idealize.ShloMosaic.Lib.Pipeline.ValueKit.Held

/-!
The merge kernel's windows: what each block holds at each grid point, in terms of the arrays the program is given, and the
gate weights that the first point leaves in the scratch buffer for all the others.
-/

@[expose] public section

set_option maxRecDepth 16384

noncomputable section

open Idealize.ShloMosaic Idealize.ShloMosaic.TcCoe Idealize.SL.Sem

namespace Cert.MergeIdeal.Blocks

open Cert.MergeIdeal Cert.MergeIdeal.Gen

variable (m : (ℓ : Loc nD τ sig) → Buf (Elt Ideal) ℓ)

/-- Where each window stands at grid point `t`: token block `t % 4` of sequence `t / 4`. -/
theorem idx : ∀ t : Fin cfg0.N,
    win0_0.index t = ![t.val / 4, t.val % 4, 0] ∧ win0_1.index t = ![1, 0, t.val / 4, 0, 0]
      ∧ win0_2.index t = ![1, 0, 0] ∧ win0_3.index t = ![t.val / 4, t.val % 4, 0]
      ∧ win0_4.index t = ![1, 0, 3328]
      ∧ win0_5.index t = ![1, 0, 0] ∧ win0_6.index t = ![1, 0, 0] ∧ win0_7.index t = ![1, 0, 0]
      ∧ win0_8.index t = ![1, 0, 0] ∧ win0_9.index t = ![0, 0]
      ∧ win0_10.index t = ![t.val / 4, t.val % 4, 0] :=
  (by decide +kernel : ∀ t : Fin grid0.N, _)

/-- The residual stream's block. -/
theorem blk_x (c : Dev nD) (t : Fin cfg0.N) (r : Fin 1024) (k : Fin 1024) (b : Fin 8) (n : Fin 4096)
    (hb : b.val = t.val / 4) (hn : n.val = 1024 * (t.val % 4) + r.val) :
    (iblk m c 0 t : Vec Ideal S1x1024x1024 .f32) (ix3 0 r k) = m ((c : Thread nD τ).loc main_arg0) (ix3 b n k) := by
  blk_point [iblk, V, idx t]

/-- The modulation's block: shift, scale and gate of the sequence. -/
theorem blk_mod (c : Dev nD) (t : Fin cfg0.N) (j : Fin 3) (k : Fin 1024) (b : Fin 8) (q : Fin 3072)
    (hb : b.val = t.val / 4) (hq : q.val = 1024 * j.val + k.val) :
    (iblk m c 1 t : Vec Ideal S1x3x1x1x1024 .f32) (ix5 0 j 0 0 k)
      = m ((c : Thread nD τ).loc main_arg1) (ix3 1 b q) := by
  blk_point [iblk, V, idx t]

/-- The norm's gain. -/
theorem blk_g (c : Dev nD) (t : Fin cfg0.N) (k : Fin 1024) :
    (iblk m c 2 t : Vec Ideal S1x1x1024 .f32) (ix3 0 0 k) = m ((c : Thread nD τ).loc main_arg2) (ix2 1 k) := by
  blk_point [iblk, V, idx t]

/-- The branches' outputs. -/
theorem blk_y (c : Dev nD) (t : Fin cfg0.N) (r : Fin 1024) (k : Fin 1536) (b : Fin 8) (n : Fin 4096)
    (hb : b.val = t.val / 4) (hn : n.val = 1024 * (t.val % 4) + r.val) :
    (iblk m c 3 t : Vec Ideal S1x1024x1536 .bf16) (ix3 0 r k) = m ((c : Thread nD τ).loc main_arg4) (ix3 b n k) := by
  blk_point [iblk, V, idx t]

/-- The gates' columns of the input projection, taken at an element offset. -/
theorem blk_w (c : Dev nD) (t : Fin cfg0.N) (k : Fin 1024) (j : Fin 3072) (q : Fin 6400)
    (hq : q.val = 3328 + j.val) :
    (iblk m c 4 t : Vec Ideal S1x1024x3072 .f32) (ix3 0 k j) = m ((c : Thread nD τ).loc main_arg3) (ix3 1 k q) := by
  refine congrArg (m ((c : Thread nD τ).loc main_arg3)) (funext fun a => Fin.ext ?_)
  refine (Pipeline.Window.rect_emb_val_off win0_4 t (ix3 (0 : Fin 1) k j) a).trans ?_
  have h : ∀ a, win0_4.index t a = (![1, 0, 3328] : Fin 3 → ℕ) a := fun a => by rw [(idx t).2.2.2.2.1]
  show win0_4.index t a + _ = _
  rw [h a]
  match a with
  | ⟨0, _⟩ => rfl
  | ⟨1, _⟩ => exact Nat.zero_add _
  | ⟨2, _⟩ => exact hq.symm

/-- The attention's merge weights. -/
theorem blk_a (c : Dev nD) (t : Fin cfg0.N) (k : Fin 512) (d : Fin 1024) :
    (iblk m c 5 t : Vec Ideal S1x512x1024 .bf16) (ix3 0 k d) = m ((c : Thread nD τ).loc main_arg5) (ix3 1 k d) := by
  blk_point [iblk, V, idx t]

/-- The recurrence's merge weights. -/
theorem blk_s (c : Dev nD) (t : Fin cfg0.N) (k : Fin 512) (d : Fin 1024) :
    (iblk m c 6 t : Vec Ideal S1x512x1024 .bf16) (ix3 0 k d) = m ((c : Thread nD τ).loc main_arg6) (ix3 1 k d) := by
  blk_point [iblk, V, idx t]

/-- The pooling's merge weights. -/
theorem blk_p (c : Dev nD) (t : Fin cfg0.N) (k : Fin 512) (d : Fin 1024) :
    (iblk m c 7 t : Vec Ideal S1x512x1024 .bf16) (ix3 0 k d) = m ((c : Thread nD τ).loc main_arg7) (ix3 1 k d) := by
  blk_point [iblk, V, idx t]

/-- The output projection. -/
theorem blk_o (c : Dev nD) (t : Fin cfg0.N) (k d : Fin 1024) :
    (iblk m c 8 t : Vec Ideal S1x1024x1024 .bf16) (ix3 0 k d) = m ((c : Thread nD τ).loc main_arg8) (ix3 1 k d) := by
  blk_point [iblk, V, idx t]

/-- The last norm's gain. -/
theorem blk_f (c : Dev nD) (t : Fin cfg0.N) (k : Fin 1024) :
    (iblk m c 9 t : Vec Ideal S1x1024 .f32) (ix2 0 k) = m ((c : Thread nD τ).loc main_arg9) (ix1 k) := by
  blk_point [iblk, V, idx t]

/-- The scratch buffer after any point: the gates' columns, as the first point stored them. -/
theorem held (c : Dev nD) (t : Fin cfg0.N) (k : Fin 1024) (j : Fin 3072) (q : Fin 6400) (hq : q.val = 3328 + j.val) :
    (outsAt0 m c t.val t.isLt).2 (ix2 k j) = m ((c : Thread nD τ).loc main_arg3) (ix3 1 k q) := by
  rw [Pipeline.eq_of_write_hold (fun n h => (outsAt0 m c n h).2) 32 (fun t => k0_pay2 (iblk m c 4 t))
    (fun t h0 => by rw [outsAt0_A m c t h0]; frame_out) (fun t h0 => by rw [outsAt0_B m c t h0]; rfl) t]
  pointwise [k0_pay2]
  exact blk_w m c _ k j q hq

end Cert.MergeIdeal.Blocks
-- ==== Proof.MergeValue.lean ====
module

public import proofs.«01_k».proof.Proof.MergeBlocks

/-!
The merge kernel's result array: at every token and column it is the row function of `MergeRow`, over the arrays that the
program is given.
-/

@[expose] public section

set_option maxRecDepth 16384

noncomputable section

open Idealize.ShloMosaic Idealize.ShloMosaic.TcCoe Idealize.SL.Sem

namespace Cert.MergeRow

open Cert.MergeIdeal

/-- Column `d` of part `j` of the modulation: shift, scale and gate. -/
def part (j : Fin 3) (d : Fin 1024) : Fin 3072 := ⟨1024 * j.val + d.val, by omega⟩

/-- Column of the input projection that holds gate `j`. -/
def col (j : Fin 3) (d : Fin 1024) : Fin 6400 := ⟨3328 + (1024 * j.val + d.val), by omega⟩

/-- Column of the branches' outputs that holds branch `j`. -/
def ycol (j : Fin 3) (d : Fin 512) : Fin 1536 := ⟨512 * j.val + d.val, by omega⟩

/-- The result at token `n` of sequence `b` and column `d`, over the arrays of the call. -/
def out (x : S8x4096x1024.Idx → EReal) (md : S2x8x3072.Idx → EReal) (g : S2x1024.Idx → EReal)
    (w : S2x1024x6400.Idx → EReal) (y : S8x4096x1536.Idx → EReal) (wa ws wp : S2x512x1024.Idx → EReal)
    (wo : S2x1024x1024.Idx → EReal) (fg : S1024.Idx → EReal) (b : Fin 8) (n : Fin 4096) (d : Fin 1024) : EReal :=
  let h := hRow (fun k => x (ix3 b n k)) (fun k => g (ix2 1 k)) (fun k => md (ix3 1 b (part 1 k)))
    (fun k => md (ix3 1 b (part 0 k)))
  outRow (xRow (fun k => x (ix3 b n k)) (fun k => md (ix3 1 b (part 2 k)))
      (fun d => branch h (fun k d => w (ix3 1 k (col 0 d))) (fun k => y (ix3 b n (ycol 0 k))) (fun k d => wa (ix3 1 k d)) d
        + branch h (fun k d => w (ix3 1 k (col 1 d))) (fun k => y (ix3 b n (ycol 1 k))) (fun k d => ws (ix3 1 k d)) d
        + branch h (fun k d => w (ix3 1 k (col 2 d))) (fun k => y (ix3 b n (ycol 2 k))) (fun k d => wp (ix3 1 k d)) d)
      (fun k d => wo (ix3 1 k d))) (fun k => fg (ix1 k)) d

section

open Cert.MergeIdeal.Gen

variable (x : S8x4096x1024.Idx → EReal) (md : S2x8x3072.Idx → EReal) (g : S2x1024.Idx → EReal)
  (w : S2x1024x6400.Idx → EReal) (y : S8x4096x1536.Idx → EReal) (wa ws wp : S2x512x1024.Idx → EReal)
  (wo : S2x1024x1024.Idx → EReal) (fg : S1024.Idx → EReal) (b : Fin 8) (n : Fin 4096)
  (X : Vec Ideal S1x512x1024 .f32) (G : Vec Ideal S1x1x1024 .f32) (S T gt : Vec Ideal S1x1x1x1x1024 .f32)
  (W0 W1 W2 : Vec Ideal S1024x1024 .bf16) (Y0 Y1 Y2 : Vec Ideal S1x512x512 .bf16)
  (A B C : Vec Ideal S1x512x1024 .bf16) (O : Vec Ideal S1x1024x1024 .bf16) (FG : Vec Ideal S1x1024 .f32)
  (i : S1x512x1024.Idx)
  (hX : ∀ k, X (ix3 0 (i 1) k) = x (ix3 b n k)) (hG : ∀ k, G (ix3 0 0 k) = g (ix2 1 k))
  (hS : ∀ k, S (ix5 0 0 0 0 k) = md (ix3 1 b (part 1 k))) (hT : ∀ k, T (ix5 0 0 0 0 k) = md (ix3 1 b (part 0 k)))
  (hgt : ∀ k, gt (ix5 0 0 0 0 k) = md (ix3 1 b (part 2 k)))
  (hW0 : ∀ k d, W0 (ix2 k d) = w (ix3 1 k (col 0 d))) (hW1 : ∀ k d, W1 (ix2 k d) = w (ix3 1 k (col 1 d)))
  (hW2 : ∀ k d, W2 (ix2 k d) = w (ix3 1 k (col 2 d)))
  (hY0 : ∀ k, Y0 (ix3 0 (i 1) k) = y (ix3 b n (ycol 0 k))) (hY1 : ∀ k, Y1 (ix3 0 (i 1) k) = y (ix3 b n (ycol 1 k)))
  (hY2 : ∀ k, Y2 (ix3 0 (i 1) k) = y (ix3 b n (ycol 2 k)))
  (hA : ∀ k d, A (ix3 0 k d) = wa (ix3 1 k d)) (hB : ∀ k d, B (ix3 0 k d) = ws (ix3 1 k d))
  (hC : ∀ k d, C (ix3 0 k d) = wp (ix3 1 k d)) (hO : ∀ k d, O (ix3 0 k d) = wo (ix3 1 k d))
  (hFG : ∀ k, FG (ix2 0 k) = fg (ix1 k))

include hX hG hS hT hgt hW0 hW1 hW2 hY0 hY1 hY2 hA hB hC hO hFG

/-- A block's first 512 tokens: what is stored, over the arrays. -/
theorem first_half :
    k0_pay10 (F := Ideal)
        (k0_pay8 (k0_pay3 X) (k0_pay4 X G S T) (k0_pay5 (k0_pay4 X G S T) W0 Y0 A) (k0_pay6 Y1 B)
          (k0_pay7 (k0_pay4 X G S T) W1) W2 Y2 C O gt)
        (k0_pay9 (k0_pay3 X) (k0_pay4 X G S T) (k0_pay5 (k0_pay4 X G S T) W0 Y0 A) (k0_pay6 Y1 B)
          (k0_pay7 (k0_pay4 X G S T) W1) W2 Y2 C O gt) FG i
      = out x md g w y wa ws wp wo fg b n (i 2) := by
  have h : ∀ k, k0_pay4 (F := Ideal) X G S T (ix2 (i 1) k)
      = hRow (fun k => x (ix3 b n k)) (fun k => g (ix2 1 k)) (fun k => md (ix3 1 b (part 1 k)))
          (fun k => md (ix3 1 b (part 0 k))) k := fun k => by
    rw [pay4_row]
    simp only [← hX, ← hG, ← hS, ← hT]
    rfl
  rw [pay10_row]
  unfold out
  simp only [pay8_row, ← hX, ← hgt, ← hW0, ← hW1, ← hW2, ← hY0, ← hY1, ← hY2, ← hA, ← hB, ← hC, ← hO, ← hFG]
  simp only [← hX] at h
  simp only [← funext h]
  rfl

/-- A block's last 512 tokens: what is stored, over the arrays. -/
theorem second_half :
    k0_pay1 (F := Ideal) (k0_pay11 X)
        (k0_pay18 (k0_pay13 (k0_pay12 X G S) T) (k0_pay14 (k0_pay12 X G S) T W0 Y0 A) (k0_pay15 (k0_pay12 X G S) T W1)
          (k0_pay16 Y1 B) k0_pay17 W2 Y2 C O gt) FG i
      = out x md g w y wa ws wp wo fg b n (i 2) := by
  have h : ∀ k, k0_pay13 (F := Ideal) (k0_pay12 X G S) T (ix2 (i 1) k)
      = hRow (fun k => x (ix3 b n k)) (fun k => g (ix2 1 k)) (fun k => md (ix3 1 b (part 1 k)))
          (fun k => md (ix3 1 b (part 0 k))) k := fun k => by
    rw [pay13_row]
    simp only [← hX, ← hG, ← hS, ← hT]
    rfl
  rw [pay1_row]
  unfold out
  simp only [pay18_row, ← hX, ← hgt, ← hW0, ← hW1, ← hW2, ← hY0, ← hY1, ← hY2, ← hA, ← hB, ← hC, ← hO, ← hFG]
  simp only [← hX] at h
  simp only [← funext h]
  rfl

end

end Cert.MergeRow

namespace Cert.MergeIdeal.Blocks

open Cert.MergeIdeal Cert.MergeIdeal.Gen Cert.MergeRow

variable (m : (ℓ : Loc nD τ sig) → Buf (Elt Ideal) ℓ)

/-- A read of a whole buffer through a slice and a rectangle of the slice: the two offsets add up. -/
theorem read_within {S : Shape} {e : EltTy} {sp : Space} (M : Memref sig .tc sp S e) (hM : M.IsWhole)
    (f : S.Idx → Elt Ideal e) (o s o' s' : Fin S.rank → ℕ) (h : ∀ a, o a + s a ≤ S.size a)
    (h' : ∀ a, o' a + s' a ≤ s a) (h1 : ∀ a, (Rect.unit o s h).stride a = 1)
    (j : (⟨S.rank, s'⟩ : Shape).Idx) (i : S.Idx) (hi : ∀ a, (i a).val = o a + (o' a + (j a).val)) :
    M.view.readAt (Elt Ideal)
        ((Rect.unit o s h).withinL (Rect.unit (s := ⟨S.rank, s⟩) o' s' h').toLoadRect h1) (hM.unread f) j = f i := by
  show M.view.read (Elt Ideal) (hM.unread f)
    (((Rect.unit o s h).withinL (Rect.unit (s := ⟨S.rank, s⟩) o' s' h').toLoadRect h1).idx j) = f i
  rw [hM.read_unread]
  refine congrArg f ((Rect.idx_withinL (Rect.unit o s h) (Rect.unit (s := ⟨S.rank, s⟩) o' s' h').toLoadRect h1 j).trans ?_)
  funext a
  apply Fin.ext
  rw [hi]
  show o a + 1 * (o' a + 1 * (j a).val) = _
  omega

/-- A read of a rectangle of a block: the block at the rectangle's offset. -/
theorem read_at {S : Shape} {e : EltTy} (f : S.Idx → Elt Ideal e) (o s : Fin S.rank → ℕ) (h : ∀ a, o a + s a ≤ S.size a)
    (j : (⟨S.rank, s⟩ : Shape).Idx) (i : S.Idx) (hi : ∀ a, (i a).val = o a + (j a).val) :
    View.ld f (Rect.unit o s h) j = f i := by
  refine congrArg f (funext fun a => Fin.ext ?_)
  rw [hi]
  show o a + 1 * (j a).val = _
  omega

/-- The residual rows of half of a block. -/
theorem half_x (c : Dev nD) (t : Fin cfg0.N) (o : ℕ)
    (h : ∀ a : Fin 3, (![0, o, 0] : Fin 3 → ℕ) a + (![1, 512, 1024] : Fin 3 → ℕ) a ≤ S1x1024x1024.size a)
    (r : Fin 512) (k : Fin 1024) (b : Fin 8) (n : Fin 4096)
    (hb : b.val = t.val / 4) (hn : n.val = 1024 * (t.val % 4) + (o + r.val)) (ho : o ≤ 512) :
    View.ld (iblk m c 0 t : Vec Ideal S1x1024x1024 .f32) (Rect.unit (s := S1x1024x1024) ![0, o, 0] ![1, 512, 1024] h)
        (ix3 (0 : Fin 1) r k : S1x512x1024.Idx)
      = m ((c : Thread nD τ).loc main_arg0) (ix3 b n k) := by
  have e := read_at (S := S1x1024x1024) (e := .f32) (iblk m c 0 t) ![0, o, 0] ![1, 512, 1024] h
    (ix3 (0 : Fin 1) r k : S1x512x1024.Idx) (ix3 (0 : Fin 1) (⟨o + r.val, by omega⟩ : Fin 1024) k) (fun a => match a with
    | ⟨0, _⟩ => rfl
    | ⟨1, _⟩ => rfl
    | ⟨2, _⟩ => (Nat.zero_add _).symm)
  exact e.trans (blk_x m c t _ k b n hb hn)

/-- A part of the modulation's block. -/
theorem part_mod (c : Dev nD) (t : Fin cfg0.N) (j : Fin 3)
    (h : ∀ a : Fin 5, (![0, j.val, 0, 0, 0] : Fin 5 → ℕ) a + (![1, 1, 1, 1, 1024] : Fin 5 → ℕ) a ≤ S1x3x1x1x1024.size a)
    (k : Fin 1024) (b : Fin 8) (hb : b.val = t.val / 4) :
    View.ld (iblk m c 1 t : Vec Ideal S1x3x1x1x1024 .f32)
        (Rect.unit (s := S1x3x1x1x1024) ![0, j.val, 0, 0, 0] ![1, 1, 1, 1, 1024] h)
        (ix5 (0 : Fin 1) (0 : Fin 1) (0 : Fin 1) (0 : Fin 1) k : S1x1x1x1x1024.Idx)
      = m ((c : Thread nD τ).loc main_arg1) (ix3 1 b (part j k)) := by
  have e := read_at (S := S1x3x1x1x1024) (e := .f32) (iblk m c 1 t) ![0, j.val, 0, 0, 0] ![1, 1, 1, 1, 1024] h
    (ix5 (0 : Fin 1) (0 : Fin 1) (0 : Fin 1) (0 : Fin 1) k : S1x1x1x1x1024.Idx)
    (ix5 (0 : Fin 1) j (0 : Fin 1) (0 : Fin 1) k) (fun a => match a with
    | ⟨0, _⟩ => rfl
    | ⟨1, _⟩ => rfl
    | ⟨2, _⟩ => rfl
    | ⟨3, _⟩ => rfl
    | ⟨4, _⟩ => (Nat.zero_add _).symm)
  exact e.trans (blk_mod m c t j k b _ hb rfl)

/-- The rows of one branch's outputs in half of a block. -/
theorem half_y (c : Dev nD) (t : Fin cfg0.N) (j : Fin 3) (o : ℕ)
    (h : ∀ a : Fin 3, (![0, 0, 512 * j.val] : Fin 3 → ℕ) a + (![1, 1024, 512] : Fin 3 → ℕ) a ≤ S1x1024x1536.size a)
    (h' : ∀ a : Fin 3, (![0, o, 0] : Fin 3 → ℕ) a + (![1, 512, 512] : Fin 3 → ℕ) a ≤ S1x1024x512.size a)
    (h1 : ∀ a : Fin 3, (Rect.unit (s := S1x1024x1536) ![0, 0, 512 * j.val] ![1, 1024, 512] h).stride a = 1)
    (r k : Fin 512) (b : Fin 8) (n : Fin 4096)
    (hb : b.val = t.val / 4) (hn : n.val = 1024 * (t.val % 4) + (o + r.val)) (ho : o ≤ 512)
    (M : Memref sig .tc (.core .vmem) S1x1024x1536 .bf16) (hM : M.IsWhole) :
    M.view.readAt (Elt Ideal)
        (Rect.withinL (Rect.unit (s := S1x1024x1536) ![0, 0, 512 * j.val] ![1, 1024, 512] h)
          (Rect.unit (s := S1x1024x512) ![0, o, 0] ![1, 512, 512] h').toLoadRect h1)
        (hM.unread (iblk m c 3 t)) (ix3 (0 : Fin 1) r k : S1x512x512.Idx)
      = m ((c : Thread nD τ).loc main_arg4) (ix3 b n (ycol j k)) := by
  have e := read_within (S := S1x1024x1536) (e := .bf16) M hM (iblk m c 3 t) ![0, 0, 512 * j.val] ![1, 1024, 512]
    ![0, o, 0] ![1, 512, 512] h h' h1 (ix3 (0 : Fin 1) r k : S1x512x512.Idx)
    (ix3 (0 : Fin 1) (⟨o + r.val, by omega⟩ : Fin 1024) (ycol j k)) (fun a => match a with
    | ⟨0, _⟩ => rfl
    | ⟨1, _⟩ => (Nat.zero_add _).symm
    | ⟨2, _⟩ => congrArg (512 * j.val + ·) (Nat.zero_add k.val).symm)
  exact e.trans (blk_y m c t _ _ b n hb hn)

/-- The weights of gate `j`, read back in the point that stores them. -/
theorem gate_first (c : Dev nD) (t : Fin cfg0.N) (j : Fin 3)
    (h' : ∀ a : Fin 2, (![0, 0] : Fin 2 → ℕ) a + (![1024, 3072] : Fin 2 → ℕ) a ≤ S1024x3072.size a)
    (h : ∀ a : Fin 2, (![0, 1024 * j.val] : Fin 2 → ℕ) a + (![1024, 1024] : Fin 2 → ℕ) a ≤ S1024x3072.size a)
    (k d : Fin 1024) :
    View.readCov (Val := Elt Ideal) (s := S1024x3072) (e := .bf16) (View.whole cc0_scratch0)
        [⟨Rect.unit (s := S1024x3072) ![0, 0] ![1024, 3072] h', k0_pay2 (F := Ideal) (iblk m c 4 t)⟩]
        (Rect.unit (s := S1024x3072) ![0, 1024 * j.val] ![1024, 1024] h).toLoadRect (ix2 k d : S1024x1024.Idx)
      = m ((c : Thread nD τ).loc main_arg3) (ix3 1 k (col j d)) := by
  rw [View.readCov_eq_canon']
  have e := View.canon_cons_emb (Val := Elt Ideal) (e := .bf16) (Rect.unit (s := S1024x3072) ![0, 0] ![1024, 3072] h')
    (k0_pay2 (F := Ideal) (iblk m c 4 t)) [] (ix2 k (⟨1024 * j.val + d.val, by omega⟩ : Fin 3072) : S1024x3072.Idx)
  refine (congrArg _ (funext fun a => Fin.ext ?_)).trans (e.trans ?_)
  · match a with
    | ⟨0, _⟩ => rfl
    | ⟨1, _⟩ =>
      show 1024 * j.val + 1 * d.val = 0 + 1 * (1024 * j.val + d.val)
      omega
  · pointwise [k0_pay2]
    exact blk_w m c t k _ (col j d) rfl

/-- The weights of gate `j`, read at a later point. -/
theorem gate_later (c : Dev nD) (t : ℕ) (ht : t < cfg0.N) (j : Fin 3)
    (h : ∀ a : Fin 2, (![0, 1024 * j.val] : Fin 2 → ℕ) a + (![1024, 1024] : Fin 2 → ℕ) a ≤ S1024x3072.size a)
    (hM : (Memref.whole cc0_scratch0).IsWhole) (k d : Fin 1024) :
    View.ld (S := S1024x3072) (View.read (Elt Ideal) (View.whole cc0_scratch0) (hM.unread (outsAt0 m c t ht).2))
        (Rect.unit (s := S1024x3072) ![0, 1024 * j.val] ![1024, 1024] h) (ix2 k d : S1024x1024.Idx)
      = m ((c : Thread nD τ).loc main_arg3) (ix3 1 k (col j d)) := by
  have e := read_at (S := S1024x3072) (e := .bf16)
    (View.read (Elt Ideal) (View.whole cc0_scratch0) (hM.unread (outsAt0 m c t ht).2))
    ![0, 1024 * j.val] ![1024, 1024] h (ix2 k d : S1024x1024.Idx)
    (ix2 k (⟨1024 * j.val + d.val, by omega⟩ : Fin 3072)) (fun a => match a with
    | ⟨0, _⟩ => (Nat.zero_add _).symm
    | ⟨1, _⟩ => rfl)
  rw [e]
  exact (congrFun (hM.read_unread (outsAt0 m c t ht).2) _).trans (held m c ⟨t, ht⟩ k _ (col j d) rfl)

/-- The result array after the whole grid. -/
theorem final (c : Dev nD) :
    (dats m 0 c).arrAt 10 cfg0.N
      = fun i => out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) (i 0) (i 1) (i 2) := by
  refine (dats m 0 c).arrAt_eq_of_covers 10 _ (by decide +kernel) fun t hf y => ?_
  blk_simp
  rw [after0_10]
  have hi := idx t
  have hb : (((View.whole main_v9).slice (win0_10.rect t)).emb y 0).val = t.val / 4 := by
    blk_simp [idx t]
  have hn : (((View.whole main_v9).slice (win0_10.rect t)).emb y 1).val = 1024 * (t.val % 4) + (y 1).val := by
    blk_simp [idx t]
    omega
  have hd : (((View.whole main_v9).slice (win0_10.rect t)).emb y 2).val = (y 2).val := by
    blk_simp [idx t]
  by_cases h0 : t.val % 32 = 0
  · rw [outsAt0_A m c t h0]
    frame_out
    canon_tiles x h
    · rw [h1] at hn
      refine (second_half (i := x) (hX := fun k => half_x m c t 512 _ _ k _ _ hb hn (by decide)) (hG := blk_g m c t)
        (hS := fun k => part_mod m c t 1 _ k _ hb) (hT := fun k => part_mod m c t 0 _ k _ hb)
        (hgt := fun k => part_mod m c t 2 _ k _ hb)
        (hW0 := gate_first m c t 0 _ _) (hW1 := gate_first m c t 1 _ _) (hW2 := gate_first m c t 2 _ _)
        (hY0 := fun k => half_y m c t 0 512 _ _ _ _ k _ _ hb hn (by decide) _ _)
        (hY1 := fun k => half_y m c t 1 512 _ _ _ _ k _ _ hb hn (by decide) _ _)
        (hY2 := fun k => half_y m c t 2 512 _ _ _ _ k _ _ hb hn (by decide) _ _)
        (hA := blk_a m c t) (hB := blk_s m c t) (hC := blk_p m c t) (hO := blk_o m c t) (hFG := blk_f m c t)).trans
        (congrArg _ (Fin.ext (hd.trans h2).symm))
    · replace hn := hn.trans (congrArg _ (h1.trans (Nat.zero_add _).symm))
      refine (first_half (i := x) (hX := fun k => half_x m c t 0 _ _ k _ _ hb hn (by decide)) (hG := blk_g m c t)
        (hS := fun k => part_mod m c t 1 _ k _ hb) (hT := fun k => part_mod m c t 0 _ k _ hb)
        (hgt := fun k => part_mod m c t 2 _ k _ hb)
        (hW0 := gate_first m c t 0 _ _) (hW1 := gate_first m c t 1 _ _) (hW2 := gate_first m c t 2 _ _)
        (hY0 := fun k => half_y m c t 0 0 _ _ _ _ k _ _ hb hn (by decide) _ _)
        (hY1 := fun k => half_y m c t 1 0 _ _ _ _ k _ _ hb hn (by decide) _ _)
        (hY2 := fun k => half_y m c t 2 0 _ _ _ _ k _ _ hb hn (by decide) _ _)
        (hA := blk_a m c t) (hB := blk_s m c t) (hC := blk_p m c t) (hO := blk_o m c t) (hFG := blk_f m c t)).trans
        (congrArg _ (Fin.ext (hd.trans h2).symm))
  · rw [outsAt0_B m c t h0]
    frame_out
    canon_tiles x h
    · rw [h1] at hn
      refine (second_half (i := x) (hX := fun k => half_x m c t 512 _ _ k _ _ hb hn (by decide)) (hG := blk_g m c t)
        (hS := fun k => part_mod m c t 1 _ k _ hb) (hT := fun k => part_mod m c t 0 _ k _ hb)
        (hgt := fun k => part_mod m c t 2 _ k _ hb)
        (hW0 := gate_later m c _ _ 0 _ _) (hW1 := gate_later m c _ _ 1 _ _) (hW2 := gate_later m c _ _ 2 _ _)
        (hY0 := fun k => half_y m c t 0 512 _ _ _ _ k _ _ hb hn (by decide) _ _)
        (hY1 := fun k => half_y m c t 1 512 _ _ _ _ k _ _ hb hn (by decide) _ _)
        (hY2 := fun k => half_y m c t 2 512 _ _ _ _ k _ _ hb hn (by decide) _ _)
        (hA := blk_a m c t) (hB := blk_s m c t) (hC := blk_p m c t) (hO := blk_o m c t) (hFG := blk_f m c t)).trans
        (congrArg _ (Fin.ext (hd.trans h2).symm))
    · replace hn := hn.trans (congrArg _ (h1.trans (Nat.zero_add _).symm))
      refine (first_half (i := x) (hX := fun k => half_x m c t 0 _ _ k _ _ hb hn (by decide)) (hG := blk_g m c t)
        (hS := fun k => part_mod m c t 1 _ k _ hb) (hT := fun k => part_mod m c t 0 _ k _ hb)
        (hgt := fun k => part_mod m c t 2 _ k _ hb)
        (hW0 := gate_later m c _ _ 0 _ _) (hW1 := gate_later m c _ _ 1 _ _) (hW2 := gate_later m c _ _ 2 _ _)
        (hY0 := fun k => half_y m c t 0 0 _ _ _ _ k _ _ hb hn (by decide) _ _)
        (hY1 := fun k => half_y m c t 1 0 _ _ _ _ k _ _ hb hn (by decide) _ _)
        (hY2 := fun k => half_y m c t 2 0 _ _ _ _ k _ _ hb hn (by decide) _ _)
        (hA := blk_a m c t) (hB := blk_s m c t) (hC := blk_p m c t) (hO := blk_o m c t) (hFG := blk_f m c t)).trans
        (congrArg _ (Fin.ext (hd.trans h2).symm))

end Cert.MergeIdeal.Blocks
-- ==== Proof.Consts.lean ====
module

public import Idealize.ShloMosaic.PureOps.Ideal
public import Mathlib.Analysis.SpecialFunctions.Trigonometric.DerivHyp

/-! The constants that the programs spell, and the logistic function through the hyperbolic tangent. -/

@[expose] public section

noncomputable section

namespace Cert.Consts

open Idealize.ShloMosaic

/-- The constant one half. -/
theorem ofBits_half : Ideal.ofBits .f32 0x3F000000#32 = ((1 / 2 : ℝ) : EReal) := by
  simp [Ideal.ofBits, Ideal.ieee, -EReal.coe_mul]; norm_num

/-- On the reals, half the hyperbolic tangent of half the argument, plus one half, is the logistic function. -/
theorem half_tanh (z : ℝ) : 1 / 2 * Real.tanh (1 / 2 * z) + 1 / 2 = (1 + Real.exp (-z))⁻¹ := by
  have hu := Real.exp_pos (1 / 2 * z)
  have hv := Real.exp_pos (-(1 / 2 * z))
  have h1 : Real.exp (1 / 2 * z) * Real.exp (-(1 / 2 * z)) = 1 := by rw [← Real.exp_add]; simp
  have h2 : Real.exp (-z) = Real.exp (-(1 / 2 * z)) * Real.exp (-(1 / 2 * z)) := by
    rw [← Real.exp_add]; congr 1; ring
  rw [Real.tanh_eq_sinh_div_cosh, Real.sinh_eq, Real.cosh_eq, h2]
  generalize Real.exp (1 / 2 * z) = u at *
  generalize Real.exp (-(1 / 2 * z)) = v at *
  have hs : u + v ≠ 0 := by positivity
  have ht : 1 + v * v ≠ 0 := by positivity
  field_simp
  nlinarith [h1]

/-- The same on the extended reals: one over one plus the exponential of the negation. -/
theorem gate_eq (z : EReal) :
    Ideal.ofBits .f32 0x3F000000#32 * Ideal.tanh (Ideal.ofBits .f32 0x3F000000#32 * z) + Ideal.ofBits .f32 0x3F000000#32
      = Ideal.div 1 (1 + Ideal.exp (-z)) := by
  rw [ofBits_half]
  induction z with
  | bot =>
    rw [EReal.coe_mul_bot_of_pos (by norm_num), Ideal.tanh_bot, EReal.neg_bot, Ideal.exp_top]
    rw [show (1 : EReal) + ⊤ = ⊤ from EReal.coe_add_top 1]
    have : ((1 / 2 : ℝ) : EReal) * (-1) + ((1 / 2 : ℝ) : EReal) = ((1 / 2 * (-1) + 1 / 2 : ℝ) : EReal) := by push_cast; rfl
    rw [this]
    norm_num [Ideal.div]
  | top =>
    rw [EReal.coe_mul_top_of_pos (by norm_num), Ideal.tanh_top, EReal.neg_top, Ideal.exp_bot]
    have : ((1 / 2 : ℝ) : EReal) * 1 + ((1 / 2 : ℝ) : EReal) = ((1 / 2 * 1 + 1 / 2 : ℝ) : EReal) := by push_cast; rfl
    rw [this]
    norm_num [Ideal.div]
  | coe r =>
    rw [← EReal.coe_mul, Ideal.tanh_coe, ← EReal.coe_mul, ← EReal.coe_add, half_tanh, ← EReal.coe_neg, Ideal.exp_coe]
    have h : (1 + Real.exp (-r)) ≠ 0 := by have := Real.exp_pos (-r); positivity
    rw [show (1 : EReal) + (Real.exp (-r) : EReal) = ((1 + Real.exp (-r) : ℝ) : EReal) by push_cast; rfl]
    rw [Ideal.div_coe h, one_mul, one_div]

end Cert.Consts
-- ==== Proof.MergeReference.lean ====
module

public import proofs.«01_k».proof.Proof.MergeValue
public import proofs.«01_k».proof.Proof.Consts
public import proofs.«01_k».proof.Proof.Gen.MergeReferenceIdeal.Read

/-! The merge's reference at a token and a column: the same row function as the kernel's. -/

@[expose] public section

set_option maxRecDepth 16384

noncomputable section

open Idealize.ShloMosaic Idealize.ShloMosaic.TcCoe Idealize.SL.Sem

namespace Cert.MergeReferenceIdeal.Rows

open Cert.MergeReferenceIdeal Cert.MergeReferenceIdeal.Read Cert.MergeRow

variable (x : S8x4096x1024.Idx → EReal) (md : S2x8x3072.Idx → EReal) (g : S2x1024.Idx → EReal)
  (w : S2x1024x6400.Idx → EReal) (y : S8x4096x1536.Idx → EReal) (wa ws wp : S2x512x1024.Idx → EReal)
  (wo : S2x1024x1024.Idx → EReal) (fg : S1024.Idx → EReal) (b : Fin 8) (n : Fin 4096)

/-- The normed and modulated rows. -/
theorem h_row (k : Fin 1024) :
    val_main_v27 (F := Ideal) x md g (ix3 b n k)
      = hRow (fun k => x (ix3 b n k)) (fun k => g (ix2 1 k)) (fun k => md (ix3 1 b (part 1 k)))
          (fun k => md (ix3 1 b (part 0 k))) k := by
  pointwise [val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v5, val_main_v4,
    val_main_v3, val_main_v2, val_main_v1, val_main_v0, val_main_cst, val_main_cst_0, val_main_cst_1, val_main_cst_2]
  unfold hRow
  rw [mul_assoc (x _ * _)]
  exact congrArg₂ (· + ·) rfl (congrArg (fun q => md (ix3 1 b q)) (Fin.ext (Nat.zero_add k.val).symm))

/-- The attention's branch. -/
theorem branch_att (d : Fin 1024) :
    val_main_v48 (F := Ideal) x md g w y wa (ix3 b n d)
      = branch (fun k => val_main_v27 (F := Ideal) x md g (ix3 b n k)) (fun k d => w (ix3 1 k (col 0 d)))
          (fun k => y (ix3 b n (ycol 0 k))) (fun k d => wa (ix3 1 k d)) d := by
  pointwise [val_main_v48, val_main_v47, val_main_v46, val_main_v45, val_main_v33, val_main_v32, val_main_v44,
    val_main_v43, val_main_v42, val_main_v41, val_main_v40, val_main_v39, val_main_v38, val_main_v37, val_main_v36,
    val_main_v31, val_main_v30, val_main_v29, val_main_v28, val_main_cst_3, val_main_cst_4]
  unfold branch gate
  rw [Consts.gate_eq]
  have e0 : col 0 d = ⟨3328 + d.val, by omega⟩ := Fin.ext (congrArg (3328 + ·) (Nat.zero_add d.val))
  have e1 : ∀ k, ycol 0 k = ⟨k.val, by omega⟩ := fun k => Fin.ext (Nat.zero_add _)
  simp only [e0, e1]
  try rfl

/-- The recurrence's branch. -/
theorem branch_ssm (d : Fin 1024) :
    val_main_v54 (F := Ideal) x md g w y ws (ix3 b n d)
      = branch (fun k => val_main_v27 (F := Ideal) x md g (ix3 b n k)) (fun k d => w (ix3 1 k (col 1 d)))
          (fun k => y (ix3 b n (ycol 1 k))) (fun k d => ws (ix3 1 k d)) d := by
  pointwise [val_main_v54, val_main_v53, val_main_v52, val_main_v51, val_main_v34, val_main_v32, val_main_v50,
    val_main_v49, val_main_v42, val_main_v41, val_main_v40, val_main_v39, val_main_v38, val_main_v37, val_main_v36,
    val_main_v31, val_main_v30, val_main_v29, val_main_v28, val_main_cst_3, val_main_cst_4]
  unfold branch gate
  rw [Consts.gate_eq]
  rfl

/-- The pooling's branch. -/
theorem branch_pool (d : Fin 1024) :
    val_main_v61 (F := Ideal) x md g w y wp (ix3 b n d)
      = branch (fun k => val_main_v27 (F := Ideal) x md g (ix3 b n k)) (fun k d => w (ix3 1 k (col 2 d)))
          (fun k => y (ix3 b n (ycol 2 k))) (fun k d => wp (ix3 1 k d)) d := by
  pointwise [val_main_v61, val_main_v60, val_main_v59, val_main_v58, val_main_v35, val_main_v32, val_main_v57,
    val_main_v56, val_main_v42, val_main_v41, val_main_v40, val_main_v39, val_main_v38, val_main_v37, val_main_v36,
    val_main_v31, val_main_v30, val_main_v29, val_main_v28, val_main_cst_3, val_main_cst_4]
  unfold branch gate
  rw [Consts.gate_eq]
  rfl

/-- The residual rows with the merged branches. -/
theorem x_row (d : Fin 1024) :
    val_main_v69 (F := Ideal) x md g w y wa ws wp wo (ix3 b n d)
      = xRow (fun k => x (ix3 b n k)) (fun k => md (ix3 1 b (part 2 k)))
          (fun d => val_main_v48 (F := Ideal) x md g w y wa (ix3 b n d)
            + val_main_v54 (F := Ideal) x md g w y ws (ix3 b n d)
            + val_main_v61 (F := Ideal) x md g w y wp (ix3 b n d)) (fun k d => wo (ix3 1 k d)) d := by
  pointwise [val_main_v69, val_main_v68, val_main_v67, val_main_v66, val_main_v65, val_main_v64, val_main_v63,
    val_main_v62, val_main_v55, val_main_v6, val_main_v1, val_main_v0]
  rfl

/-- The result. -/
theorem out_row (d : Fin 1024) :
    val_main_v82 (F := Ideal) x md g w y wa ws wp wo fg (ix3 b n d) = out x md g w y wa ws wp wo fg b n d := by
  have e : val_main_v82 (F := Ideal) x md g w y wa ws wp wo fg (ix3 b n d)
      = outRow (fun k => val_main_v69 (F := Ideal) x md g w y wa ws wp wo (ix3 b n k)) (fun k => fg (ix1 k)) d := by
    pointwise [val_main_v82, val_main_v81, val_main_v80, val_main_v79, val_main_v78, val_main_v77, val_main_v76,
      val_main_v75, val_main_v74, val_main_v73, val_main_v72, val_main_v71, val_main_v70, val_main_cst_5,
      val_main_cst_6, val_main_cst_7]
    rfl
  rw [e]
  simp only [x_row, branch_att, branch_ssm, branch_pool, h_row]
  rfl

end Cert.MergeReferenceIdeal.Rows
-- ==== Proof.MergeClaims.lean ====
module

public import proofs.«01_k».proof.Defs
public import proofs.«01_k».proof.Proof.MergeReference
public import proofs.«01_k».proof.Proof.Gen.Merge.Frame
public import proofs.«01_k».proof.Proof.Gen.MergeReferenceIdeal.Run
public import Idealize.ShloMosaic.Lib.Quiescent
public import Idealize.ShloMosaic.Lib.Claim

/-! The claims about the merge call. -/

@[expose] public section

noncomputable section

open Idealize.ShloMosaic Idealize.ShloMosaic.TcCoe Idealize.SL.Sem

namespace Cert.Proof.MergeClaims

/-- The merge kernel runs and leaves its arguments as they were. -/
theorem frame_p : Cert.quiescent_Merge := fun m ρ _ => Cert.Merge.Gen.frame m ρ

/-- So does its idealized form. -/
theorem frame_pi : Cert.quiescent_MergeIdeal := fun m ρ _ => Cert.MergeIdeal.Gen.frame m ρ

/-- So does the idealized reference. -/
theorem frame_ri : Cert.quiescent_MergeReferenceIdeal := fun m ρ _ =>
  (θ_run Cert.MergeReferenceIdeal.defs _ _).mono (fun r h => ⟨fun c => (h c).2,
      Idealize.ShloMosaic.sem_eq_zero_of_no_sems (by decide) r.2⟩)
    (Cert.MergeReferenceIdeal.Value.run (F := Ideal) m ρ)

/-- The merge kernel computes what its reference computes. -/
theorem algebraic : Cert.algebraic_MergeIdeal_MergeReferenceIdeal := by
  pair_intro
  · run_from Cert.MergeIdeal.Gen.run_main m g
  · run_from Cert.MergeReferenceIdeal.Value.run m' g'
    obtain ⟨h0, h1, h2, h3, h4, h5, h6, h7, h8, h9⟩ := hagree c
    refine (Cert.MergeReferenceIdeal.Read.val_main_v82_eq m' c).trans ?_
    rw [Cert.MergeIdeal.Blocks.final, h0, h1, h2, h3, h4, h5, h6, h7, h8, h9]
    funext i
    have hi : i = ix3 (i 0) (i 1) (i 2) := eq_ix3 i
    rw [hi]
    exact Cert.MergeReferenceIdeal.Rows.out_row _ _ _ _ _ _ _ _ _ _ (i 0) (i 1) (i 2)

end Cert.Proof.MergeClaims
-- ==== Proof.ModulationClaims.lean ====
module

public import proofs.«01_k».proof.Defs
public import proofs.«01_k».proof.Proof.Consts
public import proofs.«01_k».proof.Proof.Gen.Modulation.Frame
public import proofs.«01_k».proof.Proof.Gen.ModulationIdeal.Frame
public import proofs.«01_k».proof.Proof.Gen.ModulationIdeal.Value
public import proofs.«01_k».proof.Proof.Gen.ModulationReferenceIdeal.Run
public import proofs.«01_k».proof.Proof.Gen.ModulationReferenceIdeal.Read
public import Idealize.ShloMosaic.Lib.Pipeline.ValueKit
public import Idealize.ShloMosaic.Lib.Quiescent
public import Idealize.ShloMosaic.Lib.Claim

/-!
The modulation call: the shift, scale and gate of every layer, one product of the activated conditioning with the layer's
projection and the layer's bias.
-/

@[expose] public section

set_option maxRecDepth 16384

noncomputable section

open Idealize.ShloMosaic Idealize.ShloMosaic.TcCoe Idealize.SL.Sem

namespace Cert.ModulationIdeal.Blocks

open Cert.ModulationIdeal Cert.ModulationIdeal.Gen

/-- One entry of the modulation: the product of the activated conditioning's row with a column of the layer's projection,
and the bias of that column. -/
def entry (c : Fin 1024 → EReal) (w : Fin 1024 → EReal) (b : EReal) : EReal :=
  (∑ k, (c k * Ideal.div 1 (1 + Ideal.exp (-(c k)))) * w k) + b

/-- What the kernel's body computes, at an index. -/
theorem pay_row (X : Vec Ideal S8x1024 .f32) (W : Vec Ideal S1x1024x1024 .f32) (B : Vec Ideal S1x1x1024 .f32)
    (i : S1x8x1024.Idx) :
    k0_pay1 X W B i
      = entry (fun k => X (ix2 (i 1) k)) (fun k => W (ix3 0 k (i 2))) (B (ix3 0 0 (i 2))) := by
  have hi : i = ix3 (0 : Fin 1) (i 1) (i 2) := by
    rw [← Subsingleton.elim (α := Fin 1) (i 0) 0]; exact eq_ix3 i
  rw [hi]
  pointwise [k0_pay1]
  unfold entry
  simp only [← Consts.gate_eq]

variable (m : (ℓ : Loc nD τ sig) → Buf (Elt Ideal) ℓ)

/-- Where each window stands at grid point `t`: the part `t % 3` of the layer `t / 3`. -/
theorem idx : ∀ t : Fin cfg0.N,
    win0_0.index t = ![0, 0] ∧ win0_1.index t = ![t.val / 3, 0, t.val % 3]
      ∧ win0_2.index t = ![t.val / 3, 0, t.val % 3] ∧ win0_3.index t = ![t.val / 3, 0, t.val % 3] :=
  (by decide +kernel : ∀ t : Fin grid0.N, _)

/-- The conditioning's block. -/
theorem blk_c (c : Dev nD) (t : Fin cfg0.N) (r : Fin 8) (k : Fin 1024) :
    (iblk m c 0 t : Vec Ideal S8x1024 .f32) (ix2 r k) = m ((c : Thread nD τ).loc main_arg0) (ix2 r k) := by
  blk_point [iblk, V, idx t]

/-- The projection's block. -/
theorem blk_w (c : Dev nD) (t : Fin cfg0.N) (k d : Fin 1024) (l : Fin 2) (q : Fin 3072)
    (hl : l.val = t.val / 3) (hq : q.val = 1024 * (t.val % 3) + d.val) :
    (iblk m c 1 t : Vec Ideal S1x1024x1024 .f32) (ix3 0 k d) = m ((c : Thread nD τ).loc main_arg1) (ix3 l k q) := by
  blk_point [iblk, V, idx t]

/-- The bias's block. -/
theorem blk_b (c : Dev nD) (t : Fin cfg0.N) (d : Fin 1024) (l : Fin 2) (q : Fin 3072)
    (hl : l.val = t.val / 3) (hq : q.val = 1024 * (t.val % 3) + d.val) :
    (iblk m c 2 t : Vec Ideal S1x1x1024 .f32) (ix3 0 0 d) = m ((c : Thread nD τ).loc main_arg2) (ix2 l q) := by
  blk_point [iblk, V, idx t]

/-- The result array after the whole grid. -/
theorem final (c : Dev nD) :
    (dats m 0 c).arrAt 3 cfg0.N
      = fun i => entry (fun k => m ((c : Thread nD τ).loc main_arg0) (ix2 (i 1) k))
          (fun k => m ((c : Thread nD τ).loc main_arg1) (ix3 (i 0) k (i 2)))
          (m ((c : Thread nD τ).loc main_arg2) (ix2 (i 0) (i 2))) := by
  refine (dats m 0 c).arrAt_eq_of_covers 3 _ (by decide +kernel) fun t hf y => ?_
  blk_simp
  rw [after0_3]
  have hl : (((View.whole main_v1).slice (win0_3.rect t)).emb y 0).val = t.val / 3 := by
    blk_simp [idx t]
  have hr : (((View.whole main_v1).slice (win0_3.rect t)).emb y 1).val = (y 1).val := by
    blk_simp [idx t]
  have hq : (((View.whole main_v1).slice (win0_3.rect t)).emb y 2).val = 1024 * (t.val % 3) + (y 2).val := by
    blk_simp [idx t]
    omega
  frame_out
  refine (pay_row _ _ _ y).trans ?_
  have er : ((View.whole main_v1).slice (win0_3.rect t)).emb y 1 = y 1 := Fin.ext hr
  rw [er, blk_b m c t (y 2) _ _ hl hq]
  simp only [blk_w m c t _ (y 2) _ _ hl hq]
  exact congrArg (fun f => entry f _ _) (funext fun k => blk_c m c t (y 1) k)

end Cert.ModulationIdeal.Blocks

namespace Cert.ModulationReferenceIdeal.Rows

open Cert.ModulationReferenceIdeal Cert.ModulationReferenceIdeal.Read

variable (c : (⟨S8x1024, .f32⟩ : BufTy).Contents (Elt Ideal)) (w : (⟨S2x1024x3072, .f32⟩ : BufTy).Contents (Elt Ideal))
  (b : (⟨S2x3072, .f32⟩ : BufTy).Contents (Elt Ideal))

/-- The reference at an index. -/
theorem out_row (l : Fin 2) (r : Fin 8) (q : Fin 3072) :
    val_main_v19 (F := Ideal) c w b (ix3 l r q)
      = Cert.ModulationIdeal.Blocks.entry (fun k => c (ix2 r k)) (fun k => w (ix3 l k q)) (b (ix2 l q)) := by
  match l with
  | ⟨0, _⟩ =>
    pointwise [val_main_v19, val_main_v17, val_main_v8, val_main_v7, val_main_v6, val_main_v5, val_main_v4, val_main_v3,
      val_main_v2, val_main_v1, val_main_v0, val_main_call0_v5, val_main_call0_v4, val_main_call0_v3, val_main_call0_v2,
      val_main_call0_v1, val_main_call0_v0, val_main_call0_cst, val_main_call0_cst_0]
    rfl
  | ⟨1, _⟩ =>
    pointwise [val_main_v19, val_main_v18, val_main_v16, val_main_v15, val_main_v14, val_main_v13, val_main_v12,
      val_main_v11, val_main_v10, val_main_v9, val_main_v0, val_main_call0_v5, val_main_call0_v4, val_main_call0_v3,
      val_main_call0_v2, val_main_call0_v1, val_main_call0_v0, val_main_call0_cst, val_main_call0_cst_0]
    rfl

end Cert.ModulationReferenceIdeal.Rows

namespace Cert.Proof.ModulationClaims

/-- The modulation kernel runs and leaves its arguments as they were. -/
theorem frame_p : Cert.quiescent_Modulation := fun m ρ _ => Cert.Modulation.Gen.frame m ρ

/-- So does its idealized form. -/
theorem frame_pi : Cert.quiescent_ModulationIdeal := fun m ρ _ => Cert.ModulationIdeal.Gen.frame m ρ

/-- So does the idealized reference. -/
theorem frame_ri : Cert.quiescent_ModulationReferenceIdeal := fun m ρ _ =>
  (θ_run Cert.ModulationReferenceIdeal.defs _ _).mono (fun r h => ⟨fun c => (h c).2,
      Idealize.ShloMosaic.sem_eq_zero_of_no_sems (by decide) r.2⟩)
    (Cert.ModulationReferenceIdeal.Value.run (F := Ideal) m ρ)

/-- The modulation kernel computes what its reference computes. -/
theorem algebraic : Cert.algebraic_ModulationIdeal_ModulationReferenceIdeal := by
  pair_intro
  · run_from Cert.ModulationIdeal.Gen.run_main m g
  · run_from Cert.ModulationReferenceIdeal.Value.run m' g'
    obtain ⟨h0, h1, h2⟩ := hagree c
    refine (Cert.ModulationReferenceIdeal.Read.val_main_v19_eq _ _ _).trans ?_
    rw [Cert.ModulationIdeal.Blocks.final, h2]
    funext i
    have hi : i = ix3 (i 0) (i 1) (i 2) := eq_ix3 i
    rw [hi]
    exact Cert.ModulationReferenceIdeal.Rows.out_row _ _ _ (i 0) (i 1) (i 2)

end Cert.Proof.ModulationClaims
-- ==== Proof.DiscretiseClaims.lean ====
module

public import proofs.«01_k».proof.Defs
public import proofs.«01_k».proof.Proof.Gen.Discretise.Frame
public import proofs.«01_k».proof.Proof.Gen.DiscretiseIdeal.Frame
public import proofs.«01_k».proof.Proof.Gen.DiscretiseIdeal.Value
public import proofs.«01_k».proof.Proof.Gen.DiscretiseReferenceIdeal.Run
public import proofs.«01_k».proof.Proof.Gen.DiscretiseReferenceIdeal.Read
public import Idealize.ShloMosaic.Lib.Pipeline.ValueKit
public import Idealize.ShloMosaic.Lib.Quiescent
public import Idealize.ShloMosaic.Lib.Claim

/-!
The discretisation call: the real and imaginary parts of the recurrence's per-step factor and of its input coefficient,
entry by entry.
-/

@[expose] public section

set_option maxRecDepth 16384

noncomputable section

open Idealize.ShloMosaic Idealize.ShloMosaic.TcCoe Idealize.SL.Sem

namespace Cert.DiscretiseIdeal.Blocks

open Cert.DiscretiseIdeal Cert.DiscretiseIdeal.Gen

/-- The real part of the per-step factor. -/
def barRe (a b s : EReal) : EReal := Ideal.exp (a * Ideal.exp s) * Ideal.cos (b * Ideal.exp s)

/-- Its imaginary part. -/
def barIm (a b s : EReal) : EReal := Ideal.exp (a * Ideal.exp s) * Ideal.sin (b * Ideal.exp s)

/-- The real part of the input coefficient: the factor less one, divided by the rate. -/
def coefRe (a b s : EReal) : EReal :=
  Ideal.div ((barRe a b s - 1) * a + barIm a b s * b) (a * a + b * b)

/-- Its imaginary part. -/
def coefIm (a b s : EReal) : EReal :=
  Ideal.div (barIm a b s * a - (barRe a b s - 1) * b) (a * a + b * b)

variable (X Y : Vec Ideal S1x32x64 .f32) (S : Vec Ideal S1x32x1 .f32)

/-- An index of a one-layer block. -/
theorem eq_row (i : S1x32x64.Idx) : i = ix3 (0 : Fin 1) (i 1) (i 2) := by
  rw [← Subsingleton.elim (α := Fin 1) (i 0) 0]; exact eq_ix3 i

/-- The kernel's body, the real part of the factor at an index. -/
theorem row_barRe (i : S1x32x64.Idx) :
    k0_pay11 X Y S i = barRe (X (ix3 0 (i 1) (i 2))) (Y (ix3 0 (i 1) (i 2))) (S (ix3 0 (i 1) 0)) := by
  obtain ⟨h, n, rfl⟩ : ∃ h n, i = ix3 (0 : Fin 1) h n := ⟨_, _, eq_row i⟩
  pointwise [k0_pay11, k0_pay2, k0_pay3, k0_pay4, k0_pay5, k0_pay6, k0_pay7, k0_pay8]
  rfl

/-- The kernel's body, the imaginary part of the factor at an index. -/
theorem row_barIm (i : S1x32x64.Idx) :
    k0_pay12 X Y S i = barIm (X (ix3 0 (i 1) (i 2))) (Y (ix3 0 (i 1) (i 2))) (S (ix3 0 (i 1) 0)) := by
  obtain ⟨h, n, rfl⟩ : ∃ h n, i = ix3 (0 : Fin 1) h n := ⟨_, _, eq_row i⟩
  pointwise [k0_pay12, k0_pay2, k0_pay3, k0_pay4, k0_pay5, k0_pay6, k0_pay7, k0_pay8]
  rfl

/-- The kernel's body, the real part of the coefficient at an index. -/
theorem row_coefRe (i : S1x32x64.Idx) :
    k0_pay13 X Y S i = coefRe (X (ix3 0 (i 1) (i 2))) (Y (ix3 0 (i 1) (i 2))) (S (ix3 0 (i 1) 0)) := by
  obtain ⟨h, n, rfl⟩ : ∃ h n, i = ix3 (0 : Fin 1) h n := ⟨_, _, eq_row i⟩
  pointwise [k0_pay13, k0_pay9, k0_pay10, k0_pay2, k0_pay3, k0_pay4, k0_pay5, k0_pay6, k0_pay7, k0_pay8]
  rfl

/-- The kernel's body, the imaginary part of the coefficient at an index. -/
theorem row_coefIm (i : S1x32x64.Idx) :
    k0_pay1 (k0_pay10 X Y) (k0_pay14 X Y S) i = coefIm (X (ix3 0 (i 1) (i 2))) (Y (ix3 0 (i 1) (i 2))) (S (ix3 0 (i 1) 0)) := by
  obtain ⟨h, n, rfl⟩ : ∃ h n, i = ix3 (0 : Fin 1) h n := ⟨_, _, eq_row i⟩
  pointwise [k0_pay1, k0_pay14, k0_pay9, k0_pay10, k0_pay2, k0_pay3, k0_pay4, k0_pay5, k0_pay6, k0_pay7, k0_pay8]
  rfl

variable (m : (ℓ : Loc nD τ sig) → Buf (Elt Ideal) ℓ)

/-- Where each window stands at grid point `t`: layer `t`. -/
theorem idx : ∀ t : Fin cfg0.N,
    win0_0.index t = ![t.val, 0, 0] ∧ win0_1.index t = ![t.val, 0, 0] ∧ win0_2.index t = ![t.val, 0, 0]
      ∧ win0_3.index t = ![t.val, 0, 0] ∧ win0_4.index t = ![t.val, 0, 0] ∧ win0_5.index t = ![t.val, 0, 0]
      ∧ win0_6.index t = ![t.val, 0, 0] :=
  (by decide +kernel : ∀ t : Fin grid0.N, _)

/-- The block of the rates' real parts. -/
theorem blk_re (c : Dev nD) (t : Fin cfg0.N) (h : Fin 32) (n : Fin 64) (l : Fin 2) (hl : l.val = t.val) :
    (iblk m c 0 t : Vec Ideal S1x32x64 .f32) (ix3 0 h n) = m ((c : Thread nD τ).loc main_arg0) (ix3 l h n) := by
  blk_point [iblk, V, idx t]

/-- The block of the rates' imaginary parts. -/
theorem blk_im (c : Dev nD) (t : Fin cfg0.N) (h : Fin 32) (n : Fin 64) (l : Fin 2) (hl : l.val = t.val) :
    (iblk m c 1 t : Vec Ideal S1x32x64 .f32) (ix3 0 h n) = m ((c : Thread nD τ).loc main_arg1) (ix3 l h n) := by
  blk_point [iblk, V, idx t]

/-- The block of the step sizes' logarithms. -/
theorem blk_dt (c : Dev nD) (t : Fin cfg0.N) (h : Fin 32) (l : Fin 2) (hl : l.val = t.val) :
    (iblk m c 2 t : Vec Ideal S1x32x1 .f32) (ix3 0 h 0) = m ((c : Thread nD τ).loc main_arg2) (ix2 l h) := by
  blk_point [iblk, V, idx t]

/-- The result array of the real part of the factor after the whole grid. -/
theorem final_barRe (c : Dev nD) :
    (dats m 0 c).arrAt 3 cfg0.N
      = fun i => barRe (m ((c : Thread nD τ).loc main_arg0) (ix3 (i 0) (i 1) (i 2)))
          (m ((c : Thread nD τ).loc main_arg1) (ix3 (i 0) (i 1) (i 2)))
          (m ((c : Thread nD τ).loc main_arg2) (ix2 (i 0) (i 1))) := by
  refine (dats m 0 c).arrAt_eq_of_covers 3 _ (by decide +kernel) fun t hf y => ?_
  blk_simp
  rw [after0_3]
  have hl : (((View.whole main_v1_0).slice (win0_3.rect t)).emb y 0).val = t.val := by
    blk_simp [idx t]
  have hh : (((View.whole main_v1_0).slice (win0_3.rect t)).emb y 1).val = (y 1).val := by
    blk_simp [idx t]
  have hn : (((View.whole main_v1_0).slice (win0_3.rect t)).emb y 2).val = (y 2).val := by
    blk_simp [idx t]
  frame_out
  refine (row_barRe _ _ _ y).trans ?_
  have eh : ((View.whole main_v1_0).slice (win0_3.rect t)).emb y 1 = y 1 := Fin.ext hh
  have en : ((View.whole main_v1_0).slice (win0_3.rect t)).emb y 2 = y 2 := Fin.ext hn
  rw [eh, en, blk_re m c t (y 1) (y 2) _ hl, blk_im m c t (y 1) (y 2) _ hl, blk_dt m c t (y 1) _ hl]

/-- The result array of the imaginary part of the factor after the whole grid. -/
theorem final_barIm (c : Dev nD) :
    (dats m 0 c).arrAt 4 cfg0.N
      = fun i => barIm (m ((c : Thread nD τ).loc main_arg0) (ix3 (i 0) (i 1) (i 2)))
          (m ((c : Thread nD τ).loc main_arg1) (ix3 (i 0) (i 1) (i 2)))
          (m ((c : Thread nD τ).loc main_arg2) (ix2 (i 0) (i 1))) := by
  refine (dats m 0 c).arrAt_eq_of_covers 4 _ (by decide +kernel) fun t hf y => ?_
  blk_simp
  rw [after0_4]
  have hl : (((View.whole main_v1_1).slice (win0_4.rect t)).emb y 0).val = t.val := by
    blk_simp [idx t]
  have hh : (((View.whole main_v1_1).slice (win0_4.rect t)).emb y 1).val = (y 1).val := by
    blk_simp [idx t]
  have hn : (((View.whole main_v1_1).slice (win0_4.rect t)).emb y 2).val = (y 2).val := by
    blk_simp [idx t]
  frame_out
  refine (row_barIm _ _ _ y).trans ?_
  have eh : ((View.whole main_v1_1).slice (win0_4.rect t)).emb y 1 = y 1 := Fin.ext hh
  have en : ((View.whole main_v1_1).slice (win0_4.rect t)).emb y 2 = y 2 := Fin.ext hn
  rw [eh, en, blk_re m c t (y 1) (y 2) _ hl, blk_im m c t (y 1) (y 2) _ hl, blk_dt m c t (y 1) _ hl]

/-- The result array of the real part of the coefficient after the whole grid. -/
theorem final_coefRe (c : Dev nD) :
    (dats m 0 c).arrAt 5 cfg0.N
      = fun i => coefRe (m ((c : Thread nD τ).loc main_arg0) (ix3 (i 0) (i 1) (i 2)))
          (m ((c : Thread nD τ).loc main_arg1) (ix3 (i 0) (i 1) (i 2)))
          (m ((c : Thread nD τ).loc main_arg2) (ix2 (i 0) (i 1))) := by
  refine (dats m 0 c).arrAt_eq_of_covers 5 _ (by decide +kernel) fun t hf y => ?_
  blk_simp
  rw [after0_5]
  have hl : (((View.whole main_v1_2).slice (win0_5.rect t)).emb y 0).val = t.val := by
    blk_simp [idx t]
  have hh : (((View.whole main_v1_2).slice (win0_5.rect t)).emb y 1).val = (y 1).val := by
    blk_simp [idx t]
  have hn : (((View.whole main_v1_2).slice (win0_5.rect t)).emb y 2).val = (y 2).val := by
    blk_simp [idx t]
  frame_out
  refine (row_coefRe _ _ _ y).trans ?_
  have eh : ((View.whole main_v1_2).slice (win0_5.rect t)).emb y 1 = y 1 := Fin.ext hh
  have en : ((View.whole main_v1_2).slice (win0_5.rect t)).emb y 2 = y 2 := Fin.ext hn
  rw [eh, en, blk_re m c t (y 1) (y 2) _ hl, blk_im m c t (y 1) (y 2) _ hl, blk_dt m c t (y 1) _ hl]

/-- The result array of the imaginary part of the coefficient after the whole grid. -/
theorem final_coefIm (c : Dev nD) :
    (dats m 0 c).arrAt 6 cfg0.N
      = fun i => coefIm (m ((c : Thread nD τ).loc main_arg0) (ix3 (i 0) (i 1) (i 2)))
          (m ((c : Thread nD τ).loc main_arg1) (ix3 (i 0) (i 1) (i 2)))
          (m ((c : Thread nD τ).loc main_arg2) (ix2 (i 0) (i 1))) := by
  refine (dats m 0 c).arrAt_eq_of_covers 6 _ (by decide +kernel) fun t hf y => ?_
  blk_simp
  rw [after0_6]
  have hl : (((View.whole main_v1_3).slice (win0_6.rect t)).emb y 0).val = t.val := by
    blk_simp [idx t]
  have hh : (((View.whole main_v1_3).slice (win0_6.rect t)).emb y 1).val = (y 1).val := by
    blk_simp [idx t]
  have hn : (((View.whole main_v1_3).slice (win0_6.rect t)).emb y 2).val = (y 2).val := by
    blk_simp [idx t]
  frame_out
  refine (row_coefIm _ _ _ y).trans ?_
  have eh : ((View.whole main_v1_3).slice (win0_6.rect t)).emb y 1 = y 1 := Fin.ext hh
  have en : ((View.whole main_v1_3).slice (win0_6.rect t)).emb y 2 = y 2 := Fin.ext hn
  rw [eh, en, blk_re m c t (y 1) (y 2) _ hl, blk_im m c t (y 1) (y 2) _ hl, blk_dt m c t (y 1) _ hl]

end Cert.DiscretiseIdeal.Blocks

namespace Cert.DiscretiseReferenceIdeal.Rows

open Cert.DiscretiseReferenceIdeal Cert.DiscretiseReferenceIdeal.Read Cert.DiscretiseIdeal.Blocks

variable (a b : (⟨S2x32x64, .f32⟩ : BufTy).Contents (Elt Ideal)) (s : (⟨S2x32, .f32⟩ : BufTy).Contents (Elt Ideal))
  (l : Fin 2) (h : Fin 32) (n : Fin 64)

/-- The reference, the real part of the factor at an index. -/
theorem row_barRe :
    val_main_v8 (F := Ideal) a b s (ix3 l h n) = barRe (a (ix3 l h n)) (b (ix3 l h n)) (s (ix2 l h)) := by
  pointwise [val_main_v0, val_main_v1, val_main_v2, val_main_v3, val_main_v4, val_main_v5, val_main_v6, val_main_v7, val_main_v8]
  rfl

/-- The reference, the imaginary part of the factor at an index. -/
theorem row_barIm :
    val_main_v15 (F := Ideal) a b s (ix3 l h n) = barIm (a (ix3 l h n)) (b (ix3 l h n)) (s (ix2 l h)) := by
  pointwise [val_main_v0, val_main_v1, val_main_v9, val_main_v10, val_main_v11, val_main_v12, val_main_v13, val_main_v14, val_main_v15]
  rfl

/-- The reference, the real part of the coefficient at an index. -/
theorem row_coefRe :
    val_main_v24 (F := Ideal) a b s (ix3 l h n) = coefRe (a (ix3 l h n)) (b (ix3 l h n)) (s (ix2 l h)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst]
  rfl

/-- The reference, the imaginary part of the coefficient at an index. -/
theorem row_coefIm :
    val_main_v30 (F := Ideal) a b s (ix3 l h n) = coefIm (a (ix3 l h n)) (b (ix3 l h n)) (s (ix2 l h)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v25, val_main_v26, val_main_v27, val_main_v28, val_main_v29, val_main_v30, val_main_cst_0]
  rfl

end Cert.DiscretiseReferenceIdeal.Rows

namespace Cert.Proof.DiscretiseClaims

/-- The discretisation kernel runs and leaves its arguments as they were. -/
theorem frame_p : Cert.quiescent_Discretise := fun m ρ _ => Cert.Discretise.Gen.frame m ρ

/-- So does its idealized form. -/
theorem frame_pi : Cert.quiescent_DiscretiseIdeal := fun m ρ _ => Cert.DiscretiseIdeal.Gen.frame m ρ

/-- So does the idealized reference. -/
theorem frame_ri : Cert.quiescent_DiscretiseReferenceIdeal := fun m ρ _ =>
  (θ_run Cert.DiscretiseReferenceIdeal.defs _ _).mono (fun r h => ⟨fun c => (h c).2.2.2.2,
      Idealize.ShloMosaic.sem_eq_zero_of_no_sems (by decide) r.2⟩)
    (Cert.DiscretiseReferenceIdeal.Value.run (F := Ideal) m ρ)

/-- The discretisation kernel computes what its reference computes. -/
theorem algebraic : Cert.algebraic_DiscretiseIdeal_DiscretiseReferenceIdeal := by
  pair_intro
  · run_from Cert.DiscretiseIdeal.Gen.run_main m g
  · run_from Cert.DiscretiseReferenceIdeal.Value.run m' g'
    · refine (Cert.DiscretiseReferenceIdeal.Read.val_main_v8_eq _ _ _).trans ?_
      rw [Cert.DiscretiseIdeal.Blocks.final_barRe]
      funext i
      have hi : i = ix3 (i 0) (i 1) (i 2) := eq_ix3 i
      rw [hi]
      exact Cert.DiscretiseReferenceIdeal.Rows.row_barRe _ _ _ (i 0) (i 1) (i 2)
    · refine (Cert.DiscretiseReferenceIdeal.Read.val_main_v15_eq _ _ _).trans ?_
      rw [Cert.DiscretiseIdeal.Blocks.final_barIm]
      funext i
      have hi : i = ix3 (i 0) (i 1) (i 2) := eq_ix3 i
      rw [hi]
      exact Cert.DiscretiseReferenceIdeal.Rows.row_barIm _ _ _ (i 0) (i 1) (i 2)
    · refine (Cert.DiscretiseReferenceIdeal.Read.val_main_v24_eq _ _ _).trans ?_
      rw [Cert.DiscretiseIdeal.Blocks.final_coefRe]
      funext i
      have hi : i = ix3 (i 0) (i 1) (i 2) := eq_ix3 i
      rw [hi]
      exact Cert.DiscretiseReferenceIdeal.Rows.row_coefRe _ _ _ (i 0) (i 1) (i 2)
    · refine (Cert.DiscretiseReferenceIdeal.Read.val_main_v30_eq _ _ _).trans ?_
      rw [Cert.DiscretiseIdeal.Blocks.final_coefIm]
      funext i
      have hi : i = ix3 (i 0) (i 1) (i 2) := eq_ix3 i
      rw [hi]
      exact Cert.DiscretiseReferenceIdeal.Rows.row_coefIm _ _ _ (i 0) (i 1) (i 2)

end Cert.Proof.DiscretiseClaims
-- ==== Proof.FirstMergeRow.lean ====
module

public import proofs.«01_k».proof.Proof.MergeValue
public import proofs.«01_k».proof.Proof.Gen.FirstMergeIdeal.Value
public import Idealize.ShloMosaic.Lib.Pipeline.ValueKit
public import Idealize.ShloMosaic.Lib.Claim

/-! The first layer's merge, one token at a time: the kernel's payloads as the row functions of `MergeRow`. -/

@[expose] public section

set_option maxRecDepth 16384

noncomputable section

open Idealize.ShloMosaic Idealize.ShloMosaic.TcCoe Idealize.SL.Sem

namespace Cert.FirstMergeRow

open Cert.FirstMergeIdeal Cert.FirstMergeIdeal.Gen
open Cert.MergeRow (hRow branch xRow)

/-- An index into half of a block has first coordinate zero. -/
theorem eq_block (i : S1x512x1024.Idx) : i = ix3 (0 : Fin 1) (i 1) (i 2) := by
  funext a
  match a with
  | ⟨0, _⟩ => exact Subsingleton.elim (α := Fin 1) _ _
  | ⟨1, _⟩ => rfl
  | ⟨2, _⟩ => rfl

/-- The first half's normed rows. -/
theorem pay4_row (X : Vec Ideal S1x512x1024 .f32) (G : Vec Ideal S1x1x1024 .f32) (S T : Vec Ideal S1x1x1x1x1024 .f32)
    (i : S512x1024.Idx) :
    k0_pay4 (F := Ideal) X G S T i
      = hRow (fun k => X (ix3 0 (i 0) k)) (fun k => G (ix3 0 0 k)) (fun k => S (ix5 0 0 0 0 k))
          (fun k => T (ix5 0 0 0 0 k)) (i 1) := by
  pointwise [k0_pay4, k0_pay3]
  rfl

/-- The first half's result. -/
theorem pay8_row (X : Vec Ideal S1x512x1024 .f32) (H : FVec Ideal S512x1024 .bf16)
    (W0 W1 W2 : Vec Ideal S1024x1024 .bf16) (Y0 Y1 Y2 : Vec Ideal S1x512x512 .bf16)
    (A B C : Vec Ideal S1x512x1024 .bf16) (O : Vec Ideal S1x1024x1024 .bf16) (gt : Vec Ideal S1x1x1x1x1024 .f32)
    (i : S1x512x1024.Idx) :
    k0_pay8 (F := Ideal) (k0_pay3 X) H (k0_pay5 H W0 Y0 A) (k0_pay6 Y1 B) (k0_pay7 H W1) W2 Y2 C O gt i
      = xRow (fun k => X (ix3 0 (i 1) k)) (fun k => gt (ix5 0 0 0 0 k))
          (fun d =>
            branch (fun k => H (ix2 (i 1) k)) (fun k d => W0 (ix2 k d)) (fun k => Y0 (ix3 0 (i 1) k))
                (fun k d => A (ix3 0 k d)) d
              + branch (fun k => H (ix2 (i 1) k)) (fun k d => W1 (ix2 k d)) (fun k => Y1 (ix3 0 (i 1) k))
                (fun k d => B (ix3 0 k d)) d
              + branch (fun k => H (ix2 (i 1) k)) (fun k d => W2 (ix2 k d)) (fun k => Y2 (ix3 0 (i 1) k))
                (fun k d => C (ix3 0 k d)) d)
          (fun k d => O (ix3 0 k d)) (i 2) := by
  pointwise [k0_pay8, k0_pay3, k0_pay5, k0_pay6, k0_pay7]
  exact congrArg₂ (· + ·) (congrArg X (eq_block i)) rfl

/-- The second half's normed rows. -/
theorem pay10_row (X : Vec Ideal S1x512x1024 .f32) (G : Vec Ideal S1x1x1024 .f32) (S T : Vec Ideal S1x1x1x1x1024 .f32)
    (i : S512x1024.Idx) :
    k0_pay10 (F := Ideal) X G S T i
      = hRow (fun k => X (ix3 0 (i 0) k)) (fun k => G (ix3 0 0 k)) (fun k => S (ix5 0 0 0 0 k))
          (fun k => T (ix5 0 0 0 0 k)) (i 1) := by
  pointwise [k0_pay10, k0_pay9]
  rfl

/-- The second half's result. -/
theorem pay1_row (X : Vec Ideal S1x512x1024 .f32) (G : Vec Ideal S1x1x1024 .f32) (S T : Vec Ideal S1x1x1x1x1024 .f32)
    (W0 W1 W2 : Vec Ideal S1024x1024 .bf16) (Y0 Y1 Y2 : Vec Ideal S1x512x512 .bf16)
    (A B C : Vec Ideal S1x512x1024 .bf16) (O : Vec Ideal S1x1024x1024 .bf16) (gt : Vec Ideal S1x1x1x1x1024 .f32)
    (i : S1x512x1024.Idx) :
    k0_pay1 (F := Ideal) (k0_pay9 X)
        (k0_pay13 (k0_pay10 X G S T) (k0_pay11 X G S T W0) (k0_pay12 Y0) A W1 Y1 B) (k0_pay14 (k0_pay10 X G S T) W2)
        Y2 C O gt i
      = xRow (fun k => X (ix3 0 (i 1) k)) (fun k => gt (ix5 0 0 0 0 k))
          (fun d =>
            branch (fun k => k0_pay10 (F := Ideal) X G S T (ix2 (i 1) k)) (fun k d => W0 (ix2 k d))
                (fun k => Y0 (ix3 0 (i 1) k)) (fun k d => A (ix3 0 k d)) d
              + branch (fun k => k0_pay10 (F := Ideal) X G S T (ix2 (i 1) k)) (fun k d => W1 (ix2 k d))
                (fun k => Y1 (ix3 0 (i 1) k)) (fun k d => B (ix3 0 k d)) d
              + branch (fun k => k0_pay10 (F := Ideal) X G S T (ix2 (i 1) k)) (fun k d => W2 (ix2 k d))
                (fun k => Y2 (ix3 0 (i 1) k)) (fun k d => C (ix3 0 k d)) d)
          (fun k d => O (ix3 0 k d)) (i 2) := by
  pointwise [k0_pay1, k0_pay11, k0_pay12, k0_pay13, k0_pay14, k0_pay9]
  exact congrArg₂ (· + ·) (congrArg X (eq_block i)) rfl

end Cert.FirstMergeRow
-- ==== Proof.FirstMergeBlocks.lean ====
module

public import proofs.«01_k».proof.Proof.FirstMergeRow
public import Idealize.ShloMosaic.Lib.Pipeline.ValueKit.Held

/-!
The windows of the first layer's merge kernel: what each block holds at each grid point, in terms of the arrays the program is given, and the
gate weights that the first point leaves in the scratch buffer for all the others.
-/

@[expose] public section

set_option maxRecDepth 16384

noncomputable section

open Idealize.ShloMosaic Idealize.ShloMosaic.TcCoe Idealize.SL.Sem

namespace Cert.FirstMergeIdeal.Blocks

open Cert.FirstMergeIdeal Cert.FirstMergeIdeal.Gen

variable (m : (ℓ : Loc nD τ sig) → Buf (Elt Ideal) ℓ)

/-- Where each window stands at grid point `t`: token block `t % 4` of sequence `t / 4`. -/
theorem idx : ∀ t : Fin cfg0.N,
    win0_0.index t = ![t.val / 4, t.val % 4, 0] ∧ win0_1.index t = ![0, 0, t.val / 4, 0, 0]
      ∧ win0_2.index t = ![0, 0, 0] ∧ win0_3.index t = ![t.val / 4, t.val % 4, 0]
      ∧ win0_4.index t = ![0, 0, 3328]
      ∧ win0_5.index t = ![0, 0, 0] ∧ win0_6.index t = ![0, 0, 0] ∧ win0_7.index t = ![0, 0, 0]
      ∧ win0_8.index t = ![0, 0, 0] ∧ win0_9.index t = ![0, 0]
      ∧ win0_10.index t = ![t.val / 4, t.val % 4, 0] :=
  (by decide +kernel : ∀ t : Fin grid0.N, _)

/-- The residual stream's block. -/
theorem blk_x (c : Dev nD) (t : Fin cfg0.N) (r : Fin 1024) (k : Fin 1024) (b : Fin 8) (n : Fin 4096)
    (hb : b.val = t.val / 4) (hn : n.val = 1024 * (t.val % 4) + r.val) :
    (iblk m c 0 t : Vec Ideal S1x1024x1024 .f32) (ix3 0 r k) = m ((c : Thread nD τ).loc main_arg0) (ix3 b n k) := by
  blk_point [iblk, V, idx t]

/-- The modulation's block: shift, scale and gate of the sequence. -/
theorem blk_mod (c : Dev nD) (t : Fin cfg0.N) (j : Fin 3) (k : Fin 1024) (b : Fin 8) (q : Fin 3072)
    (hb : b.val = t.val / 4) (hq : q.val = 1024 * j.val + k.val) :
    (iblk m c 1 t : Vec Ideal S1x3x1x1x1024 .f32) (ix5 0 j 0 0 k)
      = m ((c : Thread nD τ).loc main_arg1) (ix3 0 b q) := by
  blk_point [iblk, V, idx t]

/-- The norm's gain. -/
theorem blk_g (c : Dev nD) (t : Fin cfg0.N) (k : Fin 1024) :
    (iblk m c 2 t : Vec Ideal S1x1x1024 .f32) (ix3 0 0 k) = m ((c : Thread nD τ).loc main_arg2) (ix2 0 k) := by
  blk_point [iblk, V, idx t]

/-- The branches' outputs. -/
theorem blk_y (c : Dev nD) (t : Fin cfg0.N) (r : Fin 1024) (k : Fin 1536) (b : Fin 8) (n : Fin 4096)
    (hb : b.val = t.val / 4) (hn : n.val = 1024 * (t.val % 4) + r.val) :
    (iblk m c 3 t : Vec Ideal S1x1024x1536 .bf16) (ix3 0 r k) = m ((c : Thread nD τ).loc main_arg4) (ix3 b n k) := by
  blk_point [iblk, V, idx t]

/-- The gates' columns of the input projection, taken at an element offset. -/
theorem blk_w (c : Dev nD) (t : Fin cfg0.N) (k : Fin 1024) (j : Fin 3072) (q : Fin 6400)
    (hq : q.val = 3328 + j.val) :
    (iblk m c 4 t : Vec Ideal S1x1024x3072 .f32) (ix3 0 k j) = m ((c : Thread nD τ).loc main_arg3) (ix3 0 k q) := by
  refine congrArg (m ((c : Thread nD τ).loc main_arg3)) (funext fun a => Fin.ext ?_)
  refine (Pipeline.Window.rect_emb_val_off win0_4 t (ix3 (0 : Fin 1) k j) a).trans ?_
  have h : ∀ a, win0_4.index t a = (![0, 0, 3328] : Fin 3 → ℕ) a := fun a => by rw [(idx t).2.2.2.2.1]
  show win0_4.index t a + _ = _
  rw [h a]
  match a with
  | ⟨0, _⟩ => rfl
  | ⟨1, _⟩ => exact Nat.zero_add _
  | ⟨2, _⟩ => exact hq.symm

/-- The attention's merge weights. -/
theorem blk_a (c : Dev nD) (t : Fin cfg0.N) (k : Fin 512) (d : Fin 1024) :
    (iblk m c 5 t : Vec Ideal S1x512x1024 .bf16) (ix3 0 k d) = m ((c : Thread nD τ).loc main_arg5) (ix3 0 k d) := by
  blk_point [iblk, V, idx t]

/-- The recurrence's merge weights. -/
theorem blk_s (c : Dev nD) (t : Fin cfg0.N) (k : Fin 512) (d : Fin 1024) :
    (iblk m c 6 t : Vec Ideal S1x512x1024 .bf16) (ix3 0 k d) = m ((c : Thread nD τ).loc main_arg6) (ix3 0 k d) := by
  blk_point [iblk, V, idx t]

/-- The pooling's merge weights. -/
theorem blk_p (c : Dev nD) (t : Fin cfg0.N) (k : Fin 512) (d : Fin 1024) :
    (iblk m c 7 t : Vec Ideal S1x512x1024 .bf16) (ix3 0 k d) = m ((c : Thread nD τ).loc main_arg7) (ix3 0 k d) := by
  blk_point [iblk, V, idx t]

/-- The output projection. -/
theorem blk_o (c : Dev nD) (t : Fin cfg0.N) (k d : Fin 1024) :
    (iblk m c 8 t : Vec Ideal S1x1024x1024 .bf16) (ix3 0 k d) = m ((c : Thread nD τ).loc main_arg8) (ix3 0 k d) := by
  blk_point [iblk, V, idx t]

/-- The scratch buffer after any point: the gates' columns, as the first point stored them. -/
theorem held (c : Dev nD) (t : Fin cfg0.N) (k : Fin 1024) (j : Fin 3072) (q : Fin 6400) (hq : q.val = 3328 + j.val) :
    (outsAt0 m c t.val t.isLt).2 (ix2 k j) = m ((c : Thread nD τ).loc main_arg3) (ix3 0 k q) := by
  rw [Pipeline.eq_of_write_hold (fun n h => (outsAt0 m c n h).2) 32 (fun t => k0_pay2 (iblk m c 4 t))
    (fun t h0 => by rw [outsAt0_A m c t h0]; frame_out) (fun t h0 => by rw [outsAt0_B m c t h0]; rfl) t]
  pointwise [k0_pay2]
  exact blk_w m c _ k j q hq

end Cert.FirstMergeIdeal.Blocks
-- ==== Proof.FirstMergeValue.lean ====
module

public import proofs.«01_k».proof.Proof.FirstMergeBlocks

/-!
The result array of the first layer's merge kernel: at every token and column it is the row function of `MergeRow`, over the arrays that the
program is given.
-/

@[expose] public section

set_option maxRecDepth 16384

noncomputable section

open Idealize.ShloMosaic Idealize.ShloMosaic.TcCoe Idealize.SL.Sem

namespace Cert.FirstMergeRow

open Cert.FirstMergeIdeal

open Cert.MergeRow (hRow branch xRow part col ycol)

/-- The result at token `n` of sequence `b` and column `d`, over the arrays of the call. -/
def out (x : S8x4096x1024.Idx → EReal) (md : S2x8x3072.Idx → EReal) (g : S2x1024.Idx → EReal)
    (w : S2x1024x6400.Idx → EReal) (y : S8x4096x1536.Idx → EReal) (wa ws wp : S2x512x1024.Idx → EReal)
    (wo : S2x1024x1024.Idx → EReal) (b : Fin 8) (n : Fin 4096) (d : Fin 1024) : EReal :=
  let h := hRow (fun k => x (ix3 b n k)) (fun k => g (ix2 0 k)) (fun k => md (ix3 0 b (part 1 k)))
    (fun k => md (ix3 0 b (part 0 k)))
  xRow (fun k => x (ix3 b n k)) (fun k => md (ix3 0 b (part 2 k)))
      (fun d => branch h (fun k d => w (ix3 0 k (col 0 d))) (fun k => y (ix3 b n (ycol 0 k))) (fun k d => wa (ix3 0 k d)) d
        + branch h (fun k d => w (ix3 0 k (col 1 d))) (fun k => y (ix3 b n (ycol 1 k))) (fun k d => ws (ix3 0 k d)) d
        + branch h (fun k d => w (ix3 0 k (col 2 d))) (fun k => y (ix3 b n (ycol 2 k))) (fun k d => wp (ix3 0 k d)) d)
      (fun k d => wo (ix3 0 k d)) d

section

open Cert.FirstMergeIdeal.Gen

variable (x : S8x4096x1024.Idx → EReal) (md : S2x8x3072.Idx → EReal) (g : S2x1024.Idx → EReal)
  (w : S2x1024x6400.Idx → EReal) (y : S8x4096x1536.Idx → EReal) (wa ws wp : S2x512x1024.Idx → EReal)
  (wo : S2x1024x1024.Idx → EReal) (b : Fin 8) (n : Fin 4096)
  (X : Vec Ideal S1x512x1024 .f32) (G : Vec Ideal S1x1x1024 .f32) (S T gt : Vec Ideal S1x1x1x1x1024 .f32)
  (W0 W1 W2 : Vec Ideal S1024x1024 .bf16) (Y0 Y1 Y2 : Vec Ideal S1x512x512 .bf16)
  (A B C : Vec Ideal S1x512x1024 .bf16) (O : Vec Ideal S1x1024x1024 .bf16)
  (i : S1x512x1024.Idx)
  (hX : ∀ k, X (ix3 0 (i 1) k) = x (ix3 b n k)) (hG : ∀ k, G (ix3 0 0 k) = g (ix2 0 k))
  (hS : ∀ k, S (ix5 0 0 0 0 k) = md (ix3 0 b (part 1 k))) (hT : ∀ k, T (ix5 0 0 0 0 k) = md (ix3 0 b (part 0 k)))
  (hgt : ∀ k, gt (ix5 0 0 0 0 k) = md (ix3 0 b (part 2 k)))
  (hW0 : ∀ k d, W0 (ix2 k d) = w (ix3 0 k (col 0 d))) (hW1 : ∀ k d, W1 (ix2 k d) = w (ix3 0 k (col 1 d)))
  (hW2 : ∀ k d, W2 (ix2 k d) = w (ix3 0 k (col 2 d)))
  (hY0 : ∀ k, Y0 (ix3 0 (i 1) k) = y (ix3 b n (ycol 0 k))) (hY1 : ∀ k, Y1 (ix3 0 (i 1) k) = y (ix3 b n (ycol 1 k)))
  (hY2 : ∀ k, Y2 (ix3 0 (i 1) k) = y (ix3 b n (ycol 2 k)))
  (hA : ∀ k d, A (ix3 0 k d) = wa (ix3 0 k d)) (hB : ∀ k d, B (ix3 0 k d) = ws (ix3 0 k d))
  (hC : ∀ k d, C (ix3 0 k d) = wp (ix3 0 k d)) (hO : ∀ k d, O (ix3 0 k d) = wo (ix3 0 k d))

include hX hG hS hT hgt hW0 hW1 hW2 hY0 hY1 hY2 hA hB hC hO

/-- A block's first 512 tokens: what is stored, over the arrays. -/
theorem first_half :
    k0_pay8 (F := Ideal) (k0_pay3 X) (k0_pay4 X G S T) (k0_pay5 (k0_pay4 X G S T) W0 Y0 A) (k0_pay6 Y1 B)
        (k0_pay7 (k0_pay4 X G S T) W1) W2 Y2 C O gt i
      = out x md g w y wa ws wp wo b n (i 2) := by
  have h : ∀ k, k0_pay4 (F := Ideal) X G S T (ix2 (i 1) k)
      = hRow (fun k => x (ix3 b n k)) (fun k => g (ix2 0 k)) (fun k => md (ix3 0 b (part 1 k)))
          (fun k => md (ix3 0 b (part 0 k))) k := fun k => by
    rw [pay4_row]
    simp only [← hX, ← hG, ← hS, ← hT]
    rfl
  rw [pay8_row]
  unfold out
  simp only [← hX, ← hgt, ← hW0, ← hW1, ← hW2, ← hY0, ← hY1, ← hY2, ← hA, ← hB, ← hC, ← hO]
  simp only [← hX] at h
  simp only [← funext h]

/-- A block's last 512 tokens: what is stored, over the arrays. -/
theorem second_half :
    k0_pay1 (F := Ideal) (k0_pay9 X)
        (k0_pay13 (k0_pay10 X G S T) (k0_pay11 X G S T W0) (k0_pay12 Y0) A W1 Y1 B) (k0_pay14 (k0_pay10 X G S T) W2)
        Y2 C O gt i
      = out x md g w y wa ws wp wo b n (i 2) := by
  have h : ∀ k, k0_pay10 (F := Ideal) X G S T (ix2 (i 1) k)
      = hRow (fun k => x (ix3 b n k)) (fun k => g (ix2 0 k)) (fun k => md (ix3 0 b (part 1 k)))
          (fun k => md (ix3 0 b (part 0 k))) k := fun k => by
    rw [pay10_row]
    simp only [← hX, ← hG, ← hS, ← hT]
    rfl
  rw [pay1_row]
  unfold out
  simp only [← hX, ← hgt, ← hW0, ← hW1, ← hW2, ← hY0, ← hY1, ← hY2, ← hA, ← hB, ← hC, ← hO]
  simp only [← hX] at h
  simp only [← funext h]

end

end Cert.FirstMergeRow

namespace Cert.FirstMergeIdeal.Blocks

open Cert.FirstMergeIdeal Cert.FirstMergeIdeal.Gen Cert.FirstMergeRow
open Cert.MergeRow (hRow branch xRow part col ycol)

variable (m : (ℓ : Loc nD τ sig) → Buf (Elt Ideal) ℓ)

/-- A read of a whole buffer through a slice and a rectangle of the slice: the two offsets add up. -/
theorem read_within {S : Shape} {e : EltTy} {sp : Space} (M : Memref sig .tc sp S e) (hM : M.IsWhole)
    (f : S.Idx → Elt Ideal e) (o s o' s' : Fin S.rank → ℕ) (h : ∀ a, o a + s a ≤ S.size a)
    (h' : ∀ a, o' a + s' a ≤ s a) (h1 : ∀ a, (Rect.unit o s h).stride a = 1)
    (j : (⟨S.rank, s'⟩ : Shape).Idx) (i : S.Idx) (hi : ∀ a, (i a).val = o a + (o' a + (j a).val)) :
    M.view.readAt (Elt Ideal)
        ((Rect.unit o s h).withinL (Rect.unit (s := ⟨S.rank, s⟩) o' s' h').toLoadRect h1) (hM.unread f) j = f i := by
  show M.view.read (Elt Ideal) (hM.unread f)
    (((Rect.unit o s h).withinL (Rect.unit (s := ⟨S.rank, s⟩) o' s' h').toLoadRect h1).idx j) = f i
  rw [hM.read_unread]
  refine congrArg f ((Rect.idx_withinL (Rect.unit o s h) (Rect.unit (s := ⟨S.rank, s⟩) o' s' h').toLoadRect h1 j).trans ?_)
  funext a
  apply Fin.ext
  rw [hi]
  show o a + 1 * (o' a + 1 * (j a).val) = _
  omega

/-- A read of a rectangle of a block: the block at the rectangle's offset. -/
theorem read_at {S : Shape} {e : EltTy} (f : S.Idx → Elt Ideal e) (o s : Fin S.rank → ℕ) (h : ∀ a, o a + s a ≤ S.size a)
    (j : (⟨S.rank, s⟩ : Shape).Idx) (i : S.Idx) (hi : ∀ a, (i a).val = o a + (j a).val) :
    View.ld f (Rect.unit o s h) j = f i := by
  refine congrArg f (funext fun a => Fin.ext ?_)
  rw [hi]
  show o a + 1 * (j a).val = _
  omega

/-- The residual rows of half of a block. -/
theorem half_x (c : Dev nD) (t : Fin cfg0.N) (o : ℕ)
    (h : ∀ a : Fin 3, (![0, o, 0] : Fin 3 → ℕ) a + (![1, 512, 1024] : Fin 3 → ℕ) a ≤ S1x1024x1024.size a)
    (r : Fin 512) (k : Fin 1024) (b : Fin 8) (n : Fin 4096)
    (hb : b.val = t.val / 4) (hn : n.val = 1024 * (t.val % 4) + (o + r.val)) (ho : o ≤ 512) :
    View.ld (iblk m c 0 t : Vec Ideal S1x1024x1024 .f32) (Rect.unit (s := S1x1024x1024) ![0, o, 0] ![1, 512, 1024] h)
        (ix3 (0 : Fin 1) r k : S1x512x1024.Idx)
      = m ((c : Thread nD τ).loc main_arg0) (ix3 b n k) := by
  have e := read_at (S := S1x1024x1024) (e := .f32) (iblk m c 0 t) ![0, o, 0] ![1, 512, 1024] h
    (ix3 (0 : Fin 1) r k : S1x512x1024.Idx) (ix3 (0 : Fin 1) (⟨o + r.val, by omega⟩ : Fin 1024) k) (fun a => match a with
    | ⟨0, _⟩ => rfl
    | ⟨1, _⟩ => rfl
    | ⟨2, _⟩ => (Nat.zero_add _).symm)
  exact e.trans (blk_x m c t _ k b n hb hn)

/-- A part of the modulation's block. -/
theorem part_mod (c : Dev nD) (t : Fin cfg0.N) (j : Fin 3)
    (h : ∀ a : Fin 5, (![0, j.val, 0, 0, 0] : Fin 5 → ℕ) a + (![1, 1, 1, 1, 1024] : Fin 5 → ℕ) a ≤ S1x3x1x1x1024.size a)
    (k : Fin 1024) (b : Fin 8) (hb : b.val = t.val / 4) :
    View.ld (iblk m c 1 t : Vec Ideal S1x3x1x1x1024 .f32)
        (Rect.unit (s := S1x3x1x1x1024) ![0, j.val, 0, 0, 0] ![1, 1, 1, 1, 1024] h)
        (ix5 (0 : Fin 1) (0 : Fin 1) (0 : Fin 1) (0 : Fin 1) k : S1x1x1x1x1024.Idx)
      = m ((c : Thread nD τ).loc main_arg1) (ix3 0 b (part j k)) := by
  have e := read_at (S := S1x3x1x1x1024) (e := .f32) (iblk m c 1 t) ![0, j.val, 0, 0, 0] ![1, 1, 1, 1, 1024] h
    (ix5 (0 : Fin 1) (0 : Fin 1) (0 : Fin 1) (0 : Fin 1) k : S1x1x1x1x1024.Idx)
    (ix5 (0 : Fin 1) j (0 : Fin 1) (0 : Fin 1) k) (fun a => match a with
    | ⟨0, _⟩ => rfl
    | ⟨1, _⟩ => rfl
    | ⟨2, _⟩ => rfl
    | ⟨3, _⟩ => rfl
    | ⟨4, _⟩ => (Nat.zero_add _).symm)
  exact e.trans (blk_mod m c t j k b _ hb rfl)

/-- The rows of one branch's outputs in half of a block. -/
theorem half_y (c : Dev nD) (t : Fin cfg0.N) (j : Fin 3) (o : ℕ)
    (h : ∀ a : Fin 3, (![0, 0, 512 * j.val] : Fin 3 → ℕ) a + (![1, 1024, 512] : Fin 3 → ℕ) a ≤ S1x1024x1536.size a)
    (h' : ∀ a : Fin 3, (![0, o, 0] : Fin 3 → ℕ) a + (![1, 512, 512] : Fin 3 → ℕ) a ≤ S1x1024x512.size a)
    (h1 : ∀ a : Fin 3, (Rect.unit (s := S1x1024x1536) ![0, 0, 512 * j.val] ![1, 1024, 512] h).stride a = 1)
    (r k : Fin 512) (b : Fin 8) (n : Fin 4096)
    (hb : b.val = t.val / 4) (hn : n.val = 1024 * (t.val % 4) + (o + r.val)) (ho : o ≤ 512)
    (M : Memref sig .tc (.core .vmem) S1x1024x1536 .bf16) (hM : M.IsWhole) :
    M.view.readAt (Elt Ideal)
        (Rect.withinL (Rect.unit (s := S1x1024x1536) ![0, 0, 512 * j.val] ![1, 1024, 512] h)
          (Rect.unit (s := S1x1024x512) ![0, o, 0] ![1, 512, 512] h').toLoadRect h1)
        (hM.unread (iblk m c 3 t)) (ix3 (0 : Fin 1) r k : S1x512x512.Idx)
      = m ((c : Thread nD τ).loc main_arg4) (ix3 b n (ycol j k)) := by
  have e := read_within (S := S1x1024x1536) (e := .bf16) M hM (iblk m c 3 t) ![0, 0, 512 * j.val] ![1, 1024, 512]
    ![0, o, 0] ![1, 512, 512] h h' h1 (ix3 (0 : Fin 1) r k : S1x512x512.Idx)
    (ix3 (0 : Fin 1) (⟨o + r.val, by omega⟩ : Fin 1024) (ycol j k)) (fun a => match a with
    | ⟨0, _⟩ => rfl
    | ⟨1, _⟩ => (Nat.zero_add _).symm
    | ⟨2, _⟩ => congrArg (512 * j.val + ·) (Nat.zero_add k.val).symm)
  exact e.trans (blk_y m c t _ _ b n hb hn)

/-- The weights of gate `j`, read back in the point that stores them. -/
theorem gate_first (c : Dev nD) (t : Fin cfg0.N) (j : Fin 3)
    (h' : ∀ a : Fin 2, (![0, 0] : Fin 2 → ℕ) a + (![1024, 3072] : Fin 2 → ℕ) a ≤ S1024x3072.size a)
    (h : ∀ a : Fin 2, (![0, 1024 * j.val] : Fin 2 → ℕ) a + (![1024, 1024] : Fin 2 → ℕ) a ≤ S1024x3072.size a)
    (k d : Fin 1024) :
    View.readCov (Val := Elt Ideal) (s := S1024x3072) (e := .bf16) (View.whole cc0_scratch0)
        [⟨Rect.unit (s := S1024x3072) ![0, 0] ![1024, 3072] h', k0_pay2 (F := Ideal) (iblk m c 4 t)⟩]
        (Rect.unit (s := S1024x3072) ![0, 1024 * j.val] ![1024, 1024] h).toLoadRect (ix2 k d : S1024x1024.Idx)
      = m ((c : Thread nD τ).loc main_arg3) (ix3 0 k (col j d)) := by
  rw [View.readCov_eq_canon']
  have e := View.canon_cons_emb (Val := Elt Ideal) (e := .bf16) (Rect.unit (s := S1024x3072) ![0, 0] ![1024, 3072] h')
    (k0_pay2 (F := Ideal) (iblk m c 4 t)) [] (ix2 k (⟨1024 * j.val + d.val, by omega⟩ : Fin 3072) : S1024x3072.Idx)
  refine (congrArg _ (funext fun a => Fin.ext ?_)).trans (e.trans ?_)
  · match a with
    | ⟨0, _⟩ => rfl
    | ⟨1, _⟩ =>
      show 1024 * j.val + 1 * d.val = 0 + 1 * (1024 * j.val + d.val)
      omega
  · pointwise [k0_pay2]
    exact blk_w m c t k _ (col j d) rfl

/-- The weights of gate `j`, read at a later point. -/
theorem gate_later (c : Dev nD) (t : ℕ) (ht : t < cfg0.N) (j : Fin 3)
    (h : ∀ a : Fin 2, (![0, 1024 * j.val] : Fin 2 → ℕ) a + (![1024, 1024] : Fin 2 → ℕ) a ≤ S1024x3072.size a)
    (hM : (Memref.whole cc0_scratch0).IsWhole) (k d : Fin 1024) :
    View.ld (S := S1024x3072) (View.read (Elt Ideal) (View.whole cc0_scratch0) (hM.unread (outsAt0 m c t ht).2))
        (Rect.unit (s := S1024x3072) ![0, 1024 * j.val] ![1024, 1024] h) (ix2 k d : S1024x1024.Idx)
      = m ((c : Thread nD τ).loc main_arg3) (ix3 0 k (col j d)) := by
  have e := read_at (S := S1024x3072) (e := .bf16)
    (View.read (Elt Ideal) (View.whole cc0_scratch0) (hM.unread (outsAt0 m c t ht).2))
    ![0, 1024 * j.val] ![1024, 1024] h (ix2 k d : S1024x1024.Idx)
    (ix2 k (⟨1024 * j.val + d.val, by omega⟩ : Fin 3072)) (fun a => match a with
    | ⟨0, _⟩ => (Nat.zero_add _).symm
    | ⟨1, _⟩ => rfl)
  rw [e]
  exact (congrFun (hM.read_unread (outsAt0 m c t ht).2) _).trans (held m c ⟨t, ht⟩ k _ (col j d) rfl)

/-- The result array after the whole grid. -/
theorem final (c : Dev nD) :
    (dats m 0 c).arrAt 10 cfg0.N
      = fun i => out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (i 0) (i 1) (i 2) := by
  refine (dats m 0 c).arrAt_eq_of_covers 10 _ (by decide +kernel) fun t hf y => ?_
  blk_simp
  rw [after0_10]
  have hi := idx t
  have hb : (((View.whole main_v9).slice (win0_10.rect t)).emb y 0).val = t.val / 4 := by
    blk_simp [idx t]
  have hn : (((View.whole main_v9).slice (win0_10.rect t)).emb y 1).val = 1024 * (t.val % 4) + (y 1).val := by
    blk_simp [idx t]
    omega
  have hd : (((View.whole main_v9).slice (win0_10.rect t)).emb y 2).val = (y 2).val := by
    blk_simp [idx t]
  by_cases h0 : t.val % 32 = 0
  · rw [outsAt0_A m c t h0]
    frame_out
    canon_tiles x h
    · rw [h1] at hn
      refine (second_half (i := x) (hX := fun k => half_x m c t 512 _ _ k _ _ hb hn (by decide)) (hG := blk_g m c t)
        (hS := fun k => part_mod m c t 1 _ k _ hb) (hT := fun k => part_mod m c t 0 _ k _ hb)
        (hgt := fun k => part_mod m c t 2 _ k _ hb)
        (hW0 := gate_first m c t 0 _ _) (hW1 := gate_first m c t 1 _ _) (hW2 := gate_first m c t 2 _ _)
        (hY0 := fun k => half_y m c t 0 512 _ _ _ _ k _ _ hb hn (by decide) _ _)
        (hY1 := fun k => half_y m c t 1 512 _ _ _ _ k _ _ hb hn (by decide) _ _)
        (hY2 := fun k => half_y m c t 2 512 _ _ _ _ k _ _ hb hn (by decide) _ _)
        (hA := blk_a m c t) (hB := blk_s m c t) (hC := blk_p m c t) (hO := blk_o m c t)).trans
        (congrArg _ (Fin.ext (hd.trans h2).symm))
    · replace hn := hn.trans (congrArg _ (h1.trans (Nat.zero_add _).symm))
      refine (first_half (i := x) (hX := fun k => half_x m c t 0 _ _ k _ _ hb hn (by decide)) (hG := blk_g m c t)
        (hS := fun k => part_mod m c t 1 _ k _ hb) (hT := fun k => part_mod m c t 0 _ k _ hb)
        (hgt := fun k => part_mod m c t 2 _ k _ hb)
        (hW0 := gate_first m c t 0 _ _) (hW1 := gate_first m c t 1 _ _) (hW2 := gate_first m c t 2 _ _)
        (hY0 := fun k => half_y m c t 0 0 _ _ _ _ k _ _ hb hn (by decide) _ _)
        (hY1 := fun k => half_y m c t 1 0 _ _ _ _ k _ _ hb hn (by decide) _ _)
        (hY2 := fun k => half_y m c t 2 0 _ _ _ _ k _ _ hb hn (by decide) _ _)
        (hA := blk_a m c t) (hB := blk_s m c t) (hC := blk_p m c t) (hO := blk_o m c t)).trans
        (congrArg _ (Fin.ext (hd.trans h2).symm))
  · rw [outsAt0_B m c t h0]
    frame_out
    canon_tiles x h
    · rw [h1] at hn
      refine (second_half (i := x) (hX := fun k => half_x m c t 512 _ _ k _ _ hb hn (by decide)) (hG := blk_g m c t)
        (hS := fun k => part_mod m c t 1 _ k _ hb) (hT := fun k => part_mod m c t 0 _ k _ hb)
        (hgt := fun k => part_mod m c t 2 _ k _ hb)
        (hW0 := gate_later m c _ _ 0 _ _) (hW1 := gate_later m c _ _ 1 _ _) (hW2 := gate_later m c _ _ 2 _ _)
        (hY0 := fun k => half_y m c t 0 512 _ _ _ _ k _ _ hb hn (by decide) _ _)
        (hY1 := fun k => half_y m c t 1 512 _ _ _ _ k _ _ hb hn (by decide) _ _)
        (hY2 := fun k => half_y m c t 2 512 _ _ _ _ k _ _ hb hn (by decide) _ _)
        (hA := blk_a m c t) (hB := blk_s m c t) (hC := blk_p m c t) (hO := blk_o m c t)).trans
        (congrArg _ (Fin.ext (hd.trans h2).symm))
    · replace hn := hn.trans (congrArg _ (h1.trans (Nat.zero_add _).symm))
      refine (first_half (i := x) (hX := fun k => half_x m c t 0 _ _ k _ _ hb hn (by decide)) (hG := blk_g m c t)
        (hS := fun k => part_mod m c t 1 _ k _ hb) (hT := fun k => part_mod m c t 0 _ k _ hb)
        (hgt := fun k => part_mod m c t 2 _ k _ hb)
        (hW0 := gate_later m c _ _ 0 _ _) (hW1 := gate_later m c _ _ 1 _ _) (hW2 := gate_later m c _ _ 2 _ _)
        (hY0 := fun k => half_y m c t 0 0 _ _ _ _ k _ _ hb hn (by decide) _ _)
        (hY1 := fun k => half_y m c t 1 0 _ _ _ _ k _ _ hb hn (by decide) _ _)
        (hY2 := fun k => half_y m c t 2 0 _ _ _ _ k _ _ hb hn (by decide) _ _)
        (hA := blk_a m c t) (hB := blk_s m c t) (hC := blk_p m c t) (hO := blk_o m c t)).trans
        (congrArg _ (Fin.ext (hd.trans h2).symm))

end Cert.FirstMergeIdeal.Blocks
-- ==== Proof.FirstMergeReference.lean ====
module

public import proofs.«01_k».proof.Proof.FirstMergeValue
public import proofs.«01_k».proof.Proof.Consts
public import proofs.«01_k».proof.Proof.Gen.FirstMergeReferenceIdeal.Read

/-! The reference of the first layer's merge at a token and a column: the same row function as the kernel's. -/

@[expose] public section

set_option maxRecDepth 16384

noncomputable section

open Idealize.ShloMosaic Idealize.ShloMosaic.TcCoe Idealize.SL.Sem

namespace Cert.FirstMergeReferenceIdeal.Rows

open Cert.FirstMergeReferenceIdeal Cert.FirstMergeReferenceIdeal.Read Cert.FirstMergeRow
open Cert.MergeRow (hRow branch xRow part col ycol gate)

variable (x : S8x4096x1024.Idx → EReal) (md : S2x8x3072.Idx → EReal) (g : S2x1024.Idx → EReal)
  (w : S2x1024x6400.Idx → EReal) (y : S8x4096x1536.Idx → EReal) (wa ws wp : S2x512x1024.Idx → EReal)
  (wo : S2x1024x1024.Idx → EReal) (b : Fin 8) (n : Fin 4096)

/-- The normed and modulated rows. -/
theorem h_row (k : Fin 1024) :
    val_main_v27 (F := Ideal) x md g (ix3 b n k)
      = hRow (fun k => x (ix3 b n k)) (fun k => g (ix2 0 k)) (fun k => md (ix3 0 b (part 1 k)))
          (fun k => md (ix3 0 b (part 0 k))) k := by
  pointwise [val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v5, val_main_v4,
    val_main_v3, val_main_v2, val_main_v1, val_main_v0, val_main_cst, val_main_cst_0, val_main_cst_1, val_main_cst_2]
  unfold hRow
  rw [mul_assoc (x _ * _)]
  exact congrArg₂ (· + ·) rfl (congrArg (fun q => md (ix3 0 b q)) (Fin.ext (Nat.zero_add k.val).symm))

/-- The attention's branch. -/
theorem branch_att (d : Fin 1024) :
    val_main_v48 (F := Ideal) x md g w y wa (ix3 b n d)
      = branch (fun k => val_main_v27 (F := Ideal) x md g (ix3 b n k)) (fun k d => w (ix3 0 k (col 0 d)))
          (fun k => y (ix3 b n (ycol 0 k))) (fun k d => wa (ix3 0 k d)) d := by
  pointwise [val_main_v48, val_main_v47, val_main_v46, val_main_v45, val_main_v33, val_main_v32, val_main_v44,
    val_main_v43, val_main_v42, val_main_v41, val_main_v40, val_main_v39, val_main_v38, val_main_v37, val_main_v36,
    val_main_v31, val_main_v30, val_main_v29, val_main_v28, val_main_cst_3, val_main_cst_4]
  unfold branch gate
  rw [Consts.gate_eq]
  have e0 : col 0 d = ⟨3328 + d.val, by omega⟩ := Fin.ext (congrArg (3328 + ·) (Nat.zero_add d.val))
  have e1 : ∀ k, ycol 0 k = ⟨k.val, by omega⟩ := fun k => Fin.ext (Nat.zero_add _)
  simp only [e0, e1]
  try rfl

/-- The recurrence's branch. -/
theorem branch_ssm (d : Fin 1024) :
    val_main_v54 (F := Ideal) x md g w y ws (ix3 b n d)
      = branch (fun k => val_main_v27 (F := Ideal) x md g (ix3 b n k)) (fun k d => w (ix3 0 k (col 1 d)))
          (fun k => y (ix3 b n (ycol 1 k))) (fun k d => ws (ix3 0 k d)) d := by
  pointwise [val_main_v54, val_main_v53, val_main_v52, val_main_v51, val_main_v34, val_main_v32, val_main_v50,
    val_main_v49, val_main_v42, val_main_v41, val_main_v40, val_main_v39, val_main_v38, val_main_v37, val_main_v36,
    val_main_v31, val_main_v30, val_main_v29, val_main_v28, val_main_cst_3, val_main_cst_4]
  unfold branch gate
  rw [Consts.gate_eq]
  rfl

/-- The pooling's branch. -/
theorem branch_pool (d : Fin 1024) :
    val_main_v61 (F := Ideal) x md g w y wp (ix3 b n d)
      = branch (fun k => val_main_v27 (F := Ideal) x md g (ix3 b n k)) (fun k d => w (ix3 0 k (col 2 d)))
          (fun k => y (ix3 b n (ycol 2 k))) (fun k d => wp (ix3 0 k d)) d := by
  pointwise [val_main_v61, val_main_v60, val_main_v59, val_main_v58, val_main_v35, val_main_v32, val_main_v57,
    val_main_v56, val_main_v42, val_main_v41, val_main_v40, val_main_v39, val_main_v38, val_main_v37, val_main_v36,
    val_main_v31, val_main_v30, val_main_v29, val_main_v28, val_main_cst_3, val_main_cst_4]
  unfold branch gate
  rw [Consts.gate_eq]
  rfl

/-- The residual rows with the merged branches. -/
theorem x_row (d : Fin 1024) :
    val_main_v69 (F := Ideal) x md g w y wa ws wp wo (ix3 b n d)
      = xRow (fun k => x (ix3 b n k)) (fun k => md (ix3 0 b (part 2 k)))
          (fun d => val_main_v48 (F := Ideal) x md g w y wa (ix3 b n d)
            + val_main_v54 (F := Ideal) x md g w y ws (ix3 b n d)
            + val_main_v61 (F := Ideal) x md g w y wp (ix3 b n d)) (fun k d => wo (ix3 0 k d)) d := by
  pointwise [val_main_v69, val_main_v68, val_main_v67, val_main_v66, val_main_v65, val_main_v64, val_main_v63,
    val_main_v62, val_main_v55, val_main_v6, val_main_v1, val_main_v0]
  rfl

/-- The result. -/
theorem out_row (d : Fin 1024) :
    val_main_v69 (F := Ideal) x md g w y wa ws wp wo (ix3 b n d) = out x md g w y wa ws wp wo b n d := by
  rw [x_row]
  simp only [branch_att, branch_ssm, branch_pool, h_row]
  rfl

end Cert.FirstMergeReferenceIdeal.Rows
-- ==== Proof.FirstMergeClaims.lean ====
module

public import proofs.«01_k».proof.Defs
public import proofs.«01_k».proof.Proof.FirstMergeReference
public import proofs.«01_k».proof.Proof.Gen.FirstMerge.Frame
public import proofs.«01_k».proof.Proof.Gen.FirstMergeReferenceIdeal.Run
public import Idealize.ShloMosaic.Lib.Quiescent
public import Idealize.ShloMosaic.Lib.Claim

/-! The claims about the first layer's merge call. -/

@[expose] public section

noncomputable section

open Idealize.ShloMosaic Idealize.ShloMosaic.TcCoe Idealize.SL.Sem

namespace Cert.Proof.FirstMergeClaims

/-- The first layer's merge kernel runs and leaves its arguments as they were. -/
theorem frame_p : Cert.quiescent_FirstMerge := fun m ρ _ => Cert.FirstMerge.Gen.frame m ρ

/-- So does its idealized form. -/
theorem frame_pi : Cert.quiescent_FirstMergeIdeal := fun m ρ _ => Cert.FirstMergeIdeal.Gen.frame m ρ

/-- So does the idealized reference. -/
theorem frame_ri : Cert.quiescent_FirstMergeReferenceIdeal := fun m ρ _ =>
  (θ_run Cert.FirstMergeReferenceIdeal.defs _ _).mono (fun r h => ⟨fun c => (h c).2,
      Idealize.ShloMosaic.sem_eq_zero_of_no_sems (by decide) r.2⟩)
    (Cert.FirstMergeReferenceIdeal.Value.run (F := Ideal) m ρ)

/-- The first layer's merge kernel computes what its reference computes. -/
theorem algebraic : Cert.algebraic_FirstMergeIdeal_FirstMergeReferenceIdeal := by
  pair_intro
  · run_from Cert.FirstMergeIdeal.Gen.run_main m g
  · run_from Cert.FirstMergeReferenceIdeal.Value.run m' g'
    obtain ⟨h0, h1, h2, h3, h4, h5, h6, h7, h8, h9⟩ := hagree c
    refine (Cert.FirstMergeReferenceIdeal.Read.val_main_v69_eq m' c).trans ?_
    rw [Cert.FirstMergeIdeal.Blocks.final, h0, h1, h2, h3, h4, h5, h6, h7, h8]
    funext i
    have hi : i = ix3 (i 0) (i 1) (i 2) := eq_ix3 i
    rw [hi]
    exact Cert.FirstMergeReferenceIdeal.Rows.out_row _ _ _ _ _ _ _ _ _ (i 0) (i 1) (i 2)

end Cert.Proof.FirstMergeClaims
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Merge
public import proofs.«01_k».proof.Proof.Gen.MergeIdeal
public import proofs.«01_k».proof.Proof.Gen.MergeReferenceIdeal
public import proofs.«01_k».proof.Proof.Gen.Modulation
public import proofs.«01_k».proof.Proof.Gen.ModulationIdeal
public import proofs.«01_k».proof.Proof.Gen.ModulationReferenceIdeal
public import proofs.«01_k».proof.Proof.Gen.Discretise
public import proofs.«01_k».proof.Proof.Gen.DiscretiseIdeal
public import proofs.«01_k».proof.Proof.Gen.DiscretiseReferenceIdeal
public import proofs.«01_k».proof.Proof.Gen.FirstMerge
public import proofs.«01_k».proof.Proof.Gen.FirstMergeIdeal
public import proofs.«01_k».proof.Proof.Gen.FirstMergeReferenceIdeal
public import proofs.«01_k».proof.Proof.MixClaims
public import proofs.«01_k».proof.Proof.MergeClaims
public import proofs.«01_k».proof.Proof.ModulationClaims
public import proofs.«01_k».proof.Proof.DiscretiseClaims
public import proofs.«01_k».proof.Proof.FirstMergeClaims

/-! The claims of the calls put together. -/

@[expose] public section

noncomputable section

namespace Cert.Proof

/-- Every claim that is made of the layers' calls. -/
theorem claim : Cert.Claim :=
  ⟨Cert.Kernel.Gen.facts, Cert.KernelIdeal.Gen.facts, Cert.ReferenceIdeal.Gen.facts, Cert.Merge.Gen.facts,
    Cert.MergeIdeal.Gen.facts, Cert.MergeReferenceIdeal.Gen.facts,
    Cert.Modulation.Gen.facts, Cert.ModulationIdeal.Gen.facts, Cert.ModulationReferenceIdeal.Gen.facts,
    Cert.Discretise.Gen.facts, Cert.DiscretiseIdeal.Gen.facts, Cert.DiscretiseReferenceIdeal.Gen.facts,
    Cert.FirstMerge.Gen.facts, Cert.FirstMergeIdeal.Gen.facts, Cert.FirstMergeReferenceIdeal.Gen.facts,
    MixClaims.frame_p, MixClaims.frame_pi, MixClaims.frame_ri,
    MergeClaims.frame_p, MergeClaims.frame_pi, MergeClaims.frame_ri,
    ModulationClaims.frame_p, ModulationClaims.frame_pi, ModulationClaims.frame_ri,
    DiscretiseClaims.frame_p, DiscretiseClaims.frame_pi, DiscretiseClaims.frame_ri,
    FirstMergeClaims.frame_p, FirstMergeClaims.frame_pi, FirstMergeClaims.frame_ri,
    MixClaims.preserves, trivial, MergeClaims.algebraic,
    trivial, ModulationClaims.algebraic, trivial, DiscretiseClaims.algebraic,
    trivial, FirstMergeClaims.algebraic⟩

end Cert.Proof

end
